-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S3x1x512 : Shape := ⟨3, ![3, 1, 512]⟩
abbrev S3 : Shape := ⟨1, ![3]⟩
abbrev S_ : Shape := ⟨0, ![]⟩
abbrev S512 : Shape := ⟨1, ![512]⟩
abbrev S1 : Shape := ⟨1, ![1]⟩
abbrev S1x1x512 : Shape := ⟨3, ![1, 1, 512]⟩
abbrev S1023x512 : Shape := ⟨2, ![1023, 512]⟩
abbrev S2x512 : Shape := ⟨2, ![2, 512]⟩
abbrev S1022x512 : Shape := ⟨2, ![1022, 512]⟩
abbrev S4x512 : Shape := ⟨2, ![4, 512]⟩
abbrev S1020x512 : Shape := ⟨2, ![1020, 512]⟩
abbrev S8x512 : Shape := ⟨2, ![8, 512]⟩
abbrev S1016x512 : Shape := ⟨2, ![1016, 512]⟩
abbrev S16x512 : Shape := ⟨2, ![16, 512]⟩
abbrev S1008x512 : Shape := ⟨2, ![1008, 512]⟩
abbrev S32x512 : Shape := ⟨2, ![32, 512]⟩
abbrev S992x512 : Shape := ⟨2, ![992, 512]⟩
abbrev S64x512 : Shape := ⟨2, ![64, 512]⟩
abbrev S960x512 : Shape := ⟨2, ![960, 512]⟩
abbrev S128x512 : Shape := ⟨2, ![128, 512]⟩
abbrev S896x512 : Shape := ⟨2, ![896, 512]⟩
abbrev S256x512 : Shape := ⟨2, ![256, 512]⟩
abbrev S768x512 : Shape := ⟨2, ![768, 512]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S3x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v50 : BitVec 32 := Scalar.addi v2 c2_i32_31
  let c4_i32_32 : BitVec 32 := 4#32
  let c0_i32_33 : BitVec 32 := 0#32
  let v51 : BitVec 1 := Scalar.cmpi .eq c4_i32_32 c0_i32_33
  let c1_i32_34 : BitVec 32 := 1#32
  let v52 : BitVec 32 := Scalar.select v51 c1_i32_34 c4_i32_32
  let v53 : BitVec 32 := Scalar.remsi v50 v52
  let c0_i32_36 : BitVec 32 := 0#32
  let v55 : BitVec 1 := Scalar.cmpi .slt v53 c0_i32_36
  let c0_i32_37 : BitVec 32 := 0#32
  let v56 : BitVec 1 := Scalar.cmpi .slt v52 c0_i32_37
  let v57 : BitVec 1 := Scalar.xori v55 v56
  let c0_i32_35 : BitVec 32 := 0#32
  let v54 : BitVec 1 := Scalar.cmpi .ne v53 c0_i32_35
  let v58 : BitVec 1 := Scalar.andi v57 v54
  let v59 : BitVec 32 := Scalar.addi v53 v52
  let v60 : BitVec 32 := Scalar.select v58 v59 v53
  let c1_i32_41 : BitVec 32 := 1#32
  let v61 : BitVec 32 := Scalar.muli v60 c1_i32_41
  let v62 : BitVec 32 := Scalar.addi c0_i32_42 v61
  v62.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v69 : BitVec 32 := Scalar.addi v2 c1_i32_45
  let c4_i32_46 : BitVec 32 := 4#32
  let c0_i32_47 : BitVec 32 := 0#32
  let v70 : BitVec 1 := Scalar.cmpi .eq c4_i32_46 c0_i32_47
  let c1_i32_48 : BitVec 32 := 1#32
  let v71 : BitVec 32 := Scalar.select v70 c1_i32_48 c4_i32_46
  let v72 : BitVec 32 := Scalar.remsi v69 v71
  let c0_i32_50 : BitVec 32 := 0#32
  let v74 : BitVec 1 := Scalar.cmpi .slt v72 c0_i32_50
  let c0_i32_51 : BitVec 32 := 0#32
  let v75 : BitVec 1 := Scalar.cmpi .slt v71 c0_i32_51
  let v76 : BitVec 1 := Scalar.xori v74 v75
  let c0_i32_49 : BitVec 32 := 0#32
  let v73 : BitVec 1 := Scalar.cmpi .ne v72 c0_i32_49
  let v77 : BitVec 1 := Scalar.andi v76 v73
  let v78 : BitVec 32 := Scalar.addi v72 v71
  let v79 : BitVec 32 := Scalar.select v77 v78 v72
  let c1_i32_55 : BitVec 32 := 1#32
  let v80 : BitVec 32 := Scalar.muli v79 c1_i32_55
  let v81 : BitVec 32 := Scalar.addi c0_i32_56 v80
  v81.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v88 : BitVec 32 := Scalar.addi v2 c3_i32_59
  let c4_i32_60 : BitVec 32 := 4#32
  let c0_i32_61 : BitVec 32 := 0#32
  let v89 : BitVec 1 := Scalar.cmpi .eq c4_i32_60 c0_i32_61
  let c1_i32_62 : BitVec 32 := 1#32
  let v90 : BitVec 32 := Scalar.select v89 c1_i32_62 c4_i32_60
  let v91 : BitVec 32 := Scalar.remsi v88 v90
  let c0_i32_64 : BitVec 32 := 0#32
  let v93 : BitVec 1 := Scalar.cmpi .slt v91 c0_i32_64
  let c0_i32_65 : BitVec 32 := 0#32
  let v94 : BitVec 1 := Scalar.cmpi .slt v90 c0_i32_65
  let v95 : BitVec 1 := Scalar.xori v93 v94
  let c0_i32_63 : BitVec 32 := 0#32
  let v92 : BitVec 1 := Scalar.cmpi .ne v91 c0_i32_63
  let v96 : BitVec 1 := Scalar.andi v95 v92
  let v97 : BitVec 32 := Scalar.addi v91 v90
  let v98 : BitVec 32 := Scalar.select v96 v97 v91
  let c1_i32_69 : BitVec 32 := 1#32
  let v99 : BitVec 32 := Scalar.muli v98 c1_i32_69
  let v100 : BitVec 32 := Scalar.addi c0_i32_70 v99
  v100.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S_, .f32⟩
  | .hbm, ⟨2, _⟩ => ⟨S_, .f32⟩
  | .hbm, ⟨3, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Places.lean ====
/-
The places of the kernel: which device is how many steps ahead of which, the slots of the landing buffer, and the
seven semaphore cells of a device.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring.FamCut

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Devices -/

/-- The device `j + 1` steps ahead of `c` on the ring of four. -/
def ahead (j : Fin 3) (c : Dev nD) : Dev nD := ⟨(c.val + j.val + 1) % 4, Nat.mod_lt _ (by decide)⟩

/-- Three steps, two steps, one step on bring a device that is one, two, three steps ahead back to where it started. -/
theorem ahead_rev_ahead (j : Fin 3) (c : Dev nD) : ahead j.rev (ahead j c) = c := by revert j c; decide
/-- The same with the two moves in the other order. -/
theorem ahead_ahead_rev (j : Fin 3) (c : Dev nD) : ahead j (ahead j.rev c) = c := by revert j c; decide

/-- Moving `j + 1` steps ahead permutes the devices. -/
def turn (j : Fin 3) : Dev nD ≃ Dev nD := ⟨ahead j, ahead j.rev, ahead_rev_ahead j, ahead_ahead_rev j⟩

/-- `c` is the device `j + 1` ahead of `d` exactly when `d` is the one found by going round. -/
theorem ahead_eq_iff (j : Fin 3) (d c : Dev nD) : ahead j d = c ↔ d = ahead j.rev c :=
  ⟨fun h => by rw [← h, ahead_rev_ahead], fun h => by rw [h, ahead_ahead_rev]⟩

theorem dev1_eq (c : Dev nD) : (⟨k0_dev1 c, k0_dev1_lt c⟩ : Dev nD) = ahead 0 c := by revert c; decide +kernel
theorem dev2_eq (c : Dev nD) : (⟨k0_dev2 c, k0_dev2_lt c⟩ : Dev nD) = ahead 1 c := by revert c; decide +kernel
theorem dev3_eq (c : Dev nD) : (⟨k0_dev3 c, k0_dev3_lt c⟩ : Dev nD) = ahead 2 c := by revert c; decide +kernel
theorem dev4_eq (c : Dev nD) : (⟨k0_dev4 c, k0_dev4_lt c⟩ : Dev nD) = ahead 1 c := by revert c; decide +kernel
theorem dev5_eq (c : Dev nD) : (⟨k0_dev5 c, k0_dev5_lt c⟩ : Dev nD) = ahead 0 c := by revert c; decide +kernel
theorem dev6_eq (c : Dev nD) : (⟨k0_dev6 c, k0_dev6_lt c⟩ : Dev nD) = ahead 2 c := by revert c; decide +kernel

/-! ## Buffers -/

/-- The staged block of `x`, the staged block of the result, the row of column sums, the landing buffer. -/
abbrev xM : Memref sig .tc .vmem S1024x512 .f32 := Memref.whole cc0_stg0_0
abbrev oM : Memref sig .tc .vmem S1024x512 .f32 := Memref.whole cc0_stg1_0
abbrev sumM : Memref sig .tc .vmem S1x512 .f32 := Memref.whole cc0_scratch0
abbrev landM : Memref sig .tc .vmem S3x1x512 .f32 := Memref.whole cc0_scratch1

theorem slot_inb (j : Fin 3) : ∀ a, (![j.val, 0, 0] : Fin 3 → Nat) a + S1x1x512.size a ≤ S3x1x512.size a := by
  revert j; decide

/-- The rectangle of slot `j` of the landing buffer. -/
abbrev slotR (j : Fin 3) : Rect S3x1x512 := Rect.unit (s := S3x1x512) ![j.val, 0, 0] S1x1x512.size (slot_inb j)

/-- Slot `j` of the landing buffer, as the one row a transfer fills. -/
abbrev slotM (j : Fin 3) : Memref sig .tc .vmem S1x512 .f32 :=
  (landM.slice (slotR j) (fun _ => rfl)).squeeze S1x512 squeezes_S1x1x512_S1x512

theorem slot_set (j : Fin 3) : (slotM j).view.set = (slotR j).set := by
  rw [Memref.set_view_squeeze]
  exact View.set_slice_whole cc0_scratch1 (slotR j)

/-- Different slots share no element. -/
theorem slot_disjoint {i j : Fin 3} (h : i ≠ j) : Disjoint (slotM i).view.set (slotM j).view.set := by
  rw [slot_set, slot_set]
  exact Rect.unit_disjoint (a := (0 : Fin 3)) (by revert i j; decide)

/-! ## Semaphores -/

/-- The runtime's barrier semaphore; the six semaphores of transfers, the three of a device's outgoing ones (`false`)
    and the three of its incoming ones (`true`). -/
abbrev barS : Sem sig := (SemArray.scalar (sig.barrier 0 rfl) : Sems sig S_).sem
def xferS (b : Bool) (j : Fin 3) : DmaSem sig := (⟨(bif b then 5 else 2) + j.val, by cases b <;> simp <;> omega⟩ : Fin 8)
abbrev sndS (j : Fin 3) : DmaSem sig := xferS false j
abbrev rcvS (j : Fin 3) : DmaSem sig := xferS true j

theorem sem_inb (j : Fin 3) : ∀ a, (![j.val] : Fin 1 → Nat) a + S1.size a ≤ S3.size a := by revert j; decide

/-- Element `j` of the program's two semaphore arrays. -/
theorem snd_sem (j : Fin 3) : ((cc0_scratch2.slice (Rect.unit (s := S3) ![j.val] S1.size (sem_inb j))).squeeze S_ squeezes_S1_S_).sem = sndS j := by
  revert j; decide
theorem rcv_sem (j : Fin 3) : ((cc0_scratch3.slice (Rect.unit (s := S3) ![j.val] S1.size (sem_inb j))).squeeze S_ squeezes_S1_S_).sem = rcvS j := by
  revert j; decide

/-- A device's seven cells: its barrier, and by a flag and a number its sending and its receiving cells. -/
abbrev Part : Type := Option (Bool × Fin 3)

@[match_pattern] abbrev Part.bar : Part := none
@[match_pattern] abbrev Part.snd (j : Fin 3) : Part := some (false, j)
@[match_pattern] abbrev Part.rcv (j : Fin 3) : Part := some (true, j)

/-- The semaphore of a part. -/
def partSem : Part → SemLoc sig
  | .bar => .reg barS
  | some (b, j) => .dma (xferS b j)

/-- The part of the transfer semaphore numbered `q`: numbers 2, 3, 4 are the sending ones, 5, 6, 7 the receiving ones. -/
def dmaPart? : Fin 8 → Option Part := fun q =>
  if h : 2 ≤ q.val ∧ q.val < 5 then some (.snd ⟨q.val - 2, by omega⟩)
  else if h : 5 ≤ q.val then some (.rcv ⟨q.val - 5, by have := q.isLt; omega⟩)
  else none

/-- Which part a semaphore is, if it is one of the seven. -/
def part? : SemLoc sig → Option Part
  | .reg _ => some .bar
  | .dma q => dmaPart? q

theorem part?_partSem (p : Part) : part? (partSem p) = some p := by revert p; decide

theorem partSem_injective : Function.Injective partSem := fun p p' h => by
  have h1 := congrArg part? h
  rw [part?_partSem, part?_partSem] at h1
  exact Option.some.inj h1

/-- The cell of part `p` of device `c`. -/
def cell (c : Dev nD) (p : Part) : GSem nD τ sig := ((c : Thread nD τ), partSem p)

theorem cell_injective : Function.Injective fun cp : Dev nD × Part => cell cp.1 cp.2 := by
  rintro ⟨c, p⟩ ⟨c', p'⟩ h
  have h1 : c = c' := congrArg (fun g : GSem nD τ sig => g.1.1) h
  have h2 : p = p' := partSem_injective (congrArg Prod.snd h)
  rw [h1, h2]

theorem cell_eq_iff {c c' : Dev nD} {p p' : Part} : cell c p = cell c' p' ↔ c = c' ∧ p = p' :=
  ⟨fun h => by have := cell_injective (a₁ := (c, p)) (a₂ := (c', p')) h; exact ⟨congrArg Prod.fst this, congrArg Prod.snd this⟩,
    fun h => by rw [h.1, h.2]⟩

end Cert.Scan

end
-- ==== Proof.Schedule.lean ====
/-
What passes between the devices, and on which cell: the schedule of the barrier and of the three transfers, what a
device owes when it starts, and in which order cells may be waited on.
-/
module

public import proofs.«01_k».proof.Proof.Places
public import Idealize.ShloMosaic.Lib.Transfers

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The duties of a cell are numbered 0, 1, 2; the pipeline's own resources sit beside the schedule's. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s block of `x`, as staged. -/
def xAt (c : Dev nD) : (cc0_stg0_0 : Ref sig .tc).ty.Contents (Elt F) :=
  (win0_0.blk (0 : Fin 1)).view.read (Elt F) (m ((c : Thread nD τ).loc main_arg0))

/-- The sums of the columns of device `c`'s block, as the one row the kernel stores. -/
def sumsAt (c : Dev nD) : (cc0_scratch0 : Ref sig .tc).ty.Contents (Elt F) := k0_pay1 (xAt m c)

/-- The credit of one transfer of a row. -/
abbrev N : ℕ := (sumM : Memref sig .tc .vmem S1x512 .f32).view.dmaCredit
theorem N_pos : 0 < N := View.dmaCredit_pos _ (by decide)
theorem slot_credit (j : Fin 3) : (slotM j).view.dmaCredit = N := rfl

/-- Slot `j` of device `c`'s landing buffer, holding what `f` has there. -/
def slotPts (c : Dev nD) (j : Fin 3) (f : Buf (Elt F) ((slotM j).view.loc (c : Thread nD τ))) : sProp 𝕄 :=
  (slotM j).view.loc (c : Thread nD τ) ↦[(slotM j).view.set]{fullShare} f

/-- Slot `j` of device `c`, whatever it holds: what a device gives away so that a transfer may land there. -/
def free (c : Dev nD) (j : Fin 3) : sProp 𝕄 := iprop(∃ f, slotPts c j f)

/-- Slot `j` of device `c` filled: it reads as the column sums of the device whose transfer `j` goes to `c`. -/
def filled (c : Dev nD) (j : Fin 3) : sProp 𝕄 :=
  iprop(∃ f, ⌜(slotM j).view.read (Elt F) f = sumsAt m (ahead j.rev c)⌝ ∗ slotPts c j f)

/-- The row of column sums of device `c`, at the part of it transfer `j` reads. -/
def lent (c : Dev nD) (j : Fin 3) : sProp 𝕄 :=
  (sumM : Memref sig .tc .vmem S1x512 .f32).view.loc (c : Thread nD τ) ↦[(sumM : Memref sig .tc .vmem S1x512 .f32).view.set]{shareTokN fullShare j.val} sumsAt m c

instance free_storable (c : Dev nD) (j : Fin 3) : BI.Storable (upEmb : UEmb _ 𝕄) (free (F := F) c j) := by
  unfold free slotPts; infer_instance
instance filled_storable (c : Dev nD) (j : Fin 3) : BI.Storable (upEmb : UEmb _ 𝕄) (filled (F := F) m c j) := by
  unfold filled slotPts; infer_instance
instance lent_storable (c : Dev nD) (j : Fin 3) : BI.Storable (upEmb : UEmb _ 𝕄) (lent (F := F) m c j) := by
  unfold lent; infer_instance

/-! ## The schedule -/

/-- The duties of a part: a barrier has one from each other device, a transfer's cell has one. -/
def dutiesOf : Option Part → Finset (Fin 3)
  | some .bar => Finset.univ
  | some (.snd _) => {0}
  | some (.rcv _) => {0}
  | none => ∅

/-- What a unit of duty counts for on a part. -/
def amountOf : Option Part → ℕ
  | some .bar => 1
  | _ => N

/-- What comes with duty `d` of a part of device `c`: with the barrier's, slot `d` of the device `d + 1` ahead; with a
    sending cell's, the lent row back; with a receiving cell's, the filled slot. -/
def payloadOf (c : Dev nD) (d : Fin 3) : Option Part → sProp 𝕄
  | some .bar => free (ahead d c) d
  | some (.snd j) => lent m c j
  | some (.rcv j) => filled m c j
  | none => iprop(emp)

/-- The schedule: one round on each of the seven cells of each device. -/
def plan : Rounds.Schedule (GSem nD τ sig) (Fin 3) 𝕄 where
  duties g r := if r = 0 ∧ g.1.2 = .tc then dutiesOf (part? g.2) else ∅
  unitless _ := False
  amount g _ _ := amountOf (part? g.2)
  payload g _ d := payloadOf m g.1.1 d (part? g.2)
  amount_pos g _ _ _ := by
    rcases h : part? g.2 with _ | _ | ⟨b, j⟩
    · exact N_pos
    · exact Nat.one_pos
    · exact N_pos

instance plan_storable (g : GSem nD τ sig) (r : ℕ) (d : Fin 3) :
    BI.Storable (upEmb : UEmb _ 𝕄) ((plan (F := F) m).payload g r d) := by
  show BI.Storable upEmb (payloadOf m g.1.1 d (part? g.2))
  rcases part? g.2 with _ | _ | ⟨_ | _, j⟩ <;> unfold payloadOf <;> infer_instance

section Plan
variable (c : Dev nD)

theorem duties_cell (p : Part) : (plan (F := F) m).duties (cell c p) 0 = dutiesOf (some p) := by
  show (if (0 = 0 ∧ (Proc.tc : Proc τ) = .tc) then dutiesOf (part? (partSem p)) else ∅) = _
  rw [if_pos ⟨rfl, rfl⟩, part?_partSem]

theorem amount_cell (p : Part) (d : Fin 3) : (plan (F := F) m).amount (cell c p) 0 d = amountOf (some p) :=
  congrArg amountOf (part?_partSem p)

theorem payload_cell (p : Part) (d : Fin 3) : (plan (F := F) m).payload (cell c p) 0 d = payloadOf m c d (some p) :=
  congrArg (payloadOf m c d) (part?_partSem p)

/-- Every number is a duty of a barrier, 0 is the duty of a transfer's cell. -/
theorem mem_duties_bar (d : Fin 3) : d ∈ (plan (F := F) m).duties (cell c .bar) 0 := by
  rw [duties_cell]; exact Finset.mem_univ _
theorem mem_duties_dma (b : Bool) (j : Fin 3) : 0 ∈ (plan (F := F) m).duties (cell c (some (b, j))) 0 := by
  rw [duties_cell]; cases b <;> exact Finset.mem_singleton_self _

/-- No cell has a second round. -/
theorem duties_later (g : GSem nD τ sig) : ∀ r, 1 ≤ r → (plan (F := F) m).duties g r = ∅ :=
  fun r hr => if_neg fun h => by omega

/-- The barrier's round brings three units. -/
theorem expect_bar : (plan (F := F) m).expect (cell c .bar) 0 = 3 := by
  unfold Schedule.expect Schedule.amountOf
  rw [duties_cell, Finset.sum_congr rfl fun d _ => amount_cell m c .bar d]
  rfl

/-- A transfer's cell gets one row's credit. -/
theorem expect_dma (b : Bool) (j : Fin 3) : (plan (F := F) m).expect (cell c (some (b, j))) 0 = N := by
  unfold Schedule.expect Schedule.amountOf
  rw [duties_cell, Finset.sum_congr rfl fun d _ => amount_cell m c (some (b, j)) d]
  cases b <;> exact Finset.sum_singleton _ _

/-- What the barrier's round brings: slot `d` of the device `d + 1` ahead, for each `d`. -/
theorem rest_bar : bigSep ((plan (F := F) m).duties (cell c .bar) 0 \ ∅) (fun d => (plan (F := F) m).payload (cell c .bar) 0 d)
    = bigSep Finset.univ fun d : Fin 3 => free (ahead d c) d := by
  rw [Finset.sdiff_empty, duties_cell]
  exact bigSep_congr fun d _ => payload_cell m c .bar d

/-- What a sending cell's round brings. -/
theorem rest_snd (j : Fin 3) : bigSep ((plan (F := F) m).duties (cell c (.snd j)) 0 \ ∅) (fun d => (plan (F := F) m).payload (cell c (.snd j)) 0 d)
    = lent m c j := by
  rw [Finset.sdiff_empty, duties_cell]
  exact bigSep_singleton.trans (payload_cell m c (.snd j) 0)

/-- What a receiving cell's round brings. -/
theorem rest_rcv (j : Fin 3) : bigSep ((plan (F := F) m).duties (cell c (.rcv j)) 0 \ ∅) (fun d => (plan (F := F) m).payload (cell c (.rcv j)) 0 d)
    = filled m c j := by
  rw [Finset.sdiff_empty, duties_cell]
  exact bigSep_singleton.trans (payload_cell m c (.rcv j) 0)

end Plan

/-! ## What a device owes -/

/-- One row's credit to the receiving cell of transfer `j`'s target. -/
def oweR (c : Dev nD) (j : Fin 3) : CellTallies nD τ sig Unit := tallyAt (cell (ahead j c) (.rcv j)) () N
/-- One unit to the barrier of the device `k + 1` ahead. -/
def oweB (c : Dev nD) (k : Fin 3) : CellTallies nD τ sig Unit := tallyAt (cell (ahead k c) .bar) () 1

/-- What remains once the barriers are signalled: the three rows, in the order reverse to that of the transfers. -/
def oweRows (c : Dev nD) : CellTallies nD τ sig Unit := 0 + oweR c 2 + oweR c 0 + oweR c 1
/-- All a device owes when it starts. -/
def oweAll (c : Dev nD) : CellTallies nD τ sig Unit := oweRows c + oweB c 2 + oweB c 1 + oweB c 0

theorem oweRows_eq (c : Dev nD) : oweRows c = ∑ j, oweR c j := by
  unfold oweRows; rw [Fin.sum_univ_three, zero_add, add_comm (oweR c 2), add_assoc, add_comm (oweR c 2), add_assoc]
theorem oweAll_eq (c : Dev nD) : oweAll c = (∑ j, oweR c j) + ∑ k, oweB c k := by
  unfold oweAll; rw [oweRows_eq, Fin.sum_univ_three (fun k => oweB c k)]; simp only [add_assoc, add_comm, add_left_comm]

theorem sum_tally_apply (f : Fin 3 → CellTallies nD τ sig Unit) (g : GSem nD τ sig) (u : Unit) : (∑ j, f j) g u = ∑ j, f j g u := by
  rw [Finset.sum_apply, Finsupp.finset_sum_apply]

/-- A row is owed to a receiving cell. -/
theorem oweR_pos {c : Dev nD} {j : Fin 3} {g : GSem nD τ sig} {u : Unit} (h : oweR c j g u ≠ 0) : g = cell (ahead j c) (.rcv j) := by
  unfold oweR at h
  rw [tallyAt_apply] at h
  by_contra hn
  exact h (if_neg fun h' => hn h'.1)
/-- A unit is owed to a barrier. -/
theorem oweB_pos {c : Dev nD} {j : Fin 3} {g : GSem nD τ sig} {u : Unit} (h : oweB c j g u ≠ 0) : g = cell (ahead j c) .bar := by
  unfold oweB at h
  rw [tallyAt_apply] at h
  by_contra hn
  exact h (if_neg fun h' => hn h'.1)

theorem oweRows_pos {c : Dev nD} {g : GSem nD τ sig} {u : Unit} (h : 0 < oweRows c g u) : ∃ j, g = cell (ahead j c) (.rcv j) := by
  rw [oweRows_eq, sum_tally_apply] at h
  obtain ⟨j, -, hj⟩ := Finset.exists_ne_zero_of_sum_ne_zero (Nat.ne_of_gt h)
  exact ⟨j, oweR_pos hj⟩

theorem oweAll_pos {c : Dev nD} {g : GSem nD τ sig} {u : Unit} (h : 0 < oweAll c g u) :
    ∃ d p, g = cell d p ∧ (p = .bar ∨ ∃ j, p = .rcv j) := by
  rw [oweAll_eq, Pi.add_apply, Finsupp.add_apply, sum_tally_apply, sum_tally_apply] at h
  by_cases h1 : (∑ j, oweR c j g u) = 0
  · rw [h1, Nat.zero_add] at h
    obtain ⟨j, -, hj⟩ := Finset.exists_ne_zero_of_sum_ne_zero (Nat.ne_of_gt h)
    exact ⟨_, _, oweB_pos hj, .inl rfl⟩
  · obtain ⟨j, -, hj⟩ := Finset.exists_ne_zero_of_sum_ne_zero h1
    exact ⟨_, _, oweR_pos hj, .inr ⟨j, rfl⟩⟩

/-! ## The order of waits -/

/-- Every TensorCore cell has one index. -/
def L (g : GSem nD τ sig) : Finset Unit := if g.1.2 = .tc then {()} else ∅

/-- Barriers lie above the staging and sending cells, receiving cells above barriers. -/
def levelOf : Option Part → ℕ
  | some .bar => 1
  | some (.rcv _) => 2
  | _ => 0
def lv (g : GSem nD τ sig) (_ : Unit) : ℕ := levelOf (part? g.2)

theorem L_of_ne (g : GSem nD τ sig) (h : g.1.2 ≠ .tc) : L g = ∅ := if_neg h
theorem L_cell (c : Dev nD) (sm : SemLoc sig) : L ((c : Thread nD τ), sm) = {()} := if_pos rfl
theorem lv_cell (c : Dev nD) (p : Part) (u : Unit) : lv (cell c p) u = levelOf (some p) := congrArg levelOf (part?_partSem p)

/-- A device may wait on a staging semaphore at any time. -/
theorem mayWait_stage (c : Dev nD) (q : DmaSem sig) (hq : part? (.dma q) = none) (O : CellTallies nD τ sig Unit) (hO : O = oweAll c ∨ O = 0) :
    (levAts L lv : sProp 𝕄) ⊢ MayWait (c : Thread nD τ) (.dma q) () O := by
  rcases hO with rfl | rfl
  · refine MayOwe.of_cut (L := L) (lev := lv) 0 (fun p hp => ?_) (fun g u hg => ?_) (fun p hp => ?_) (fun g u hg => ?_)
    · rw [Finset.mem_singleton.mp hp, L_cell]; exact Finset.mem_singleton_self _
    · obtain ⟨d, p, rfl, -⟩ := oweAll_pos hg
      unfold cell; rw [L_cell]; exact Finset.mem_singleton_self _
    · rw [Finset.mem_singleton.mp hp]
      show levelOf (part? (.dma q)) ≤ 0
      rw [hq]; exact Nat.le_refl _
    · obtain ⟨d, p, rfl, hp⟩ := oweAll_pos hg
      rw [lv_cell]
      rcases hp with rfl | ⟨j, rfl⟩ <;> exact Nat.succ_pos _
  · rw [MayWait_zero]; iintro -; iempintro

/-- At its barrier a device owes only rows, whose cells lie above the barrier. -/
theorem mayWait_bar (c : Dev nD) :
    (levAts L lv : sProp 𝕄) ⊢ MayWait (c : Thread nD τ) (.reg barS) () (oweRows c) := by
  refine MayOwe.of_cut (L := L) (lev := lv) 1 (fun p hp => ?_) (fun g u hg => ?_) (fun p hp => ?_) (fun g u hg => ?_)
  · rw [Finset.mem_singleton.mp hp, L_cell]; exact Finset.mem_singleton_self _
  · obtain ⟨j, rfl⟩ := oweRows_pos hg
    unfold cell; rw [L_cell]; exact Finset.mem_singleton_self _
  · rw [Finset.mem_singleton.mp hp]
    exact Nat.le_refl 1
  · obtain ⟨j, rfl⟩ := oweRows_pos hg
    rw [lv_cell]; exact Nat.lt_succ_self 1

end Cert.Scan

end
-- ==== Proof.Steps.lean ====
/-
The communication steps of the kernel, one rule for each kind: signalling another device's barrier, waiting at one's
own, sending the row of sums, waiting for a transfer to have left or to have landed, and closing a cell.
-/
module

public import proofs.«01_k».proof.Proof.Schedule

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Part → ℕ)

abbrev 𝒱₀ : Variants := Variants.none

/-- What every device knows: the invariant of every cell, and that every cell's round is open. -/
def records : sProp 𝕄 :=
  iprop((bigSep Finset.univ fun cp : Dev nD × Part => cellInv ER (plan m) (K cp) (cell cp.1 cp.2))
    ∗ bigSep Finset.univ fun cp : Dev nD × Part => reached ER (cell cp.1 cp.2) 0)

instance records_persistent : BI.Persistent (records m K) := by unfold records; infer_instance

theorem records_inv (c : Dev nD) (p : Part) : records m K ⊢ cellInv ER (plan m) (K (c, p)) (cell c p) := by
  unfold records
  iintro ⟨#HI, -⟩
  iapply (show (bigSep Finset.univ fun cp : Dev nD × Part => (cellInv ER (plan m) (K cp) (cell cp.1 cp.2) : sProp 𝕄))
    ⊢ cellInv ER (plan m) (K (c, p)) (cell c p) from bigSep_elim (Finset.mem_univ (c, p)))
  iexact HI

theorem records_reached (c : Dev nD) (p : Part) : records m K ⊢ reached ER (cell c p) 0 := by
  unfold records
  iintro ⟨-, #HR⟩
  iapply (show (bigSep Finset.univ fun cp : Dev nD × Part => (reached ER (cell cp.1 cp.2) 0 : sProp 𝕄))
    ⊢ reached ER (cell c p) 0 from bigSep_elim (Finset.mem_univ (c, p)))
  iexact HR

/-- Device `c` owes `O`, whatever it has waited on. -/
def debt (c : Dev nD) (O : CellTallies nD τ sig Unit) : sProp 𝕄 := iprop(∃ W, owes (c : Thread nD τ) O W)

variable (c : Dev nD)

/-- The continuation's run on device `c`. -/
abbrev goes {α : Type} (P : Prog (TpuEff nD τ sig (Elt F) Λ₀ .tc) α) (Q : α → sProp 𝕄) : sProp 𝕄 :=
  wp frame (wpE (defs₀ (F := F)) 𝒱₀ (c : Thread nD τ) none) Set.univ P Q

/-- Signalling the barrier of the device `i + 1` ahead pays one duty of it with a free slot of one's own. -/
theorem signal_step {α : Type} {Q : α → sProp 𝕄}
    {k : PUnit → Prog (TpuEff nD τ sig (Elt F) Λ₀ .tc) α} (i : Fin 3) (t : Dev nD) (ht : t = ahead i c) (n : ℕ) (hn : n = 1) (O : CellTallies nD τ sig Unit) :
    iprop(records m K ∗ debt c (O + oweB c i) ∗ dutyTok ER (cell (ahead i c) .bar) 0 i.rev ∗ free c i.rev)
      ⊢ iprop((debt c O -∗ goes c (k ⟨⟩) Q) -∗ goes c (.op (.semSignal (Dev.tc t : Thread nD τ) barS n) k) Q) := by
  subst ht; subst hn
  unfold debt
  iintro ⟨#HR, ⟨%W, HO⟩, Ht, Hs⟩ Hk
  iapply (Rounds.wp_signal 𝒱₀ ER (plan m) (c : Thread nD τ) none (dst := (ahead i c : Thread nD τ)) (κ := K (ahead i c, .bar))
      (r := 0) (d := i.rev) (mem_duties_bar m (ahead i c) i.rev)
      (amount_cell m (ahead i c) .bar i.rev) () O rfl) $$ [HO Ht Hs]
  · isplitr; · iapply (records_inv m K (ahead i c) .bar); iexact HR
    isplitl [HO]; · iexact HO
    isplitl [Ht]; · iexact Ht
    isplitl [Hs]
    · iapply (show free c i.rev ⊢ (plan (F := F) m).payload ((ahead i c : Thread nD τ), .reg barS) 0 i.rev from
        Entails.of_eq ((payload_cell m (ahead i c) .bar i.rev).trans (by unfold payloadOf; rw [ahead_rev_ahead])).symm)
      iexact Hs
    · iapply (records_reached m K (ahead i c) .bar); iexact HR
  iintro HO
  iapply Hk
  iexists W; iexact HO

/-- Waiting for three units at one's own barrier, owing rows only, brings a free slot of each other device. -/
theorem barrier_step {α : Type} {Q : α → sProp 𝕄}
    {k : PUnit → Prog (TpuEff nD τ sig (Elt F) Λ₀ .tc) α} (n : ℕ) (hn : n = 3) :
    iprop(records m K ∗ levAts L lv ∗ cred (tallyAt (cell c .bar) () 3) ∗ debt c (oweRows c) ∗ atPos ER (cell c .bar) 0 ∅ 0)
      ⊢ iprop(((debt c (oweRows c) ∗ atPos ER (cell c .bar) 1 ∅ 0 ∗ bigSep Finset.univ fun d : Fin 3 => free (ahead d c) d) -∗ goes c (k ⟨⟩) Q)
          -∗ goes c (.op (.semWait barS n) k) Q) := by
  subst hn
  unfold debt
  iintro ⟨#HR, #HL, Hc, ⟨%W, HO⟩, Hat⟩ Hk
  iapply (Rounds.wp_wait_rest_token 𝒱₀ ER (plan m) (c : Thread nD τ) none (κ := K (c, .bar))
      (wpE_semWait_eq 𝒱₀ (c : Thread nD τ) none Set.univ) (Set.mem_univ _) () (O := oweRows c) (W := W) (R := 0) (m := 0) (T := ∅)
      ((Nat.zero_add 3).trans (expect_bar m c).symm)) $$ [Hc HO Hat]
  · isplitr; · iapply (records_inv m K c .bar); iexact HR
    isplitl [Hc]; · iexact Hc
    isplitl [HO]; · iexact HO
    isplitr; · iapply (mayWait_bar c); iexact HL
    iexact Hat
  iintro ⟨HO, Hat, -, Hpay⟩
  iapply Hk
  isplitl [HO]; · iexists _; iexact HO
  isplitl [Hat]; · iexact Hat
  iapply (Entails.of_eq (rest_bar m c)); iexact Hpay

/-- What lands in slot `j` of the device transfer `j` goes to reads as the sender's column sums. -/
theorem filled_intro (j : Fin 3) (f : Buf (Elt F) ((slotM j).view.loc (ahead j c : Thread nD τ))) :
    ((slotM j).view.loc (ahead j c : Thread nD τ)
        ↦[(slotM j).view.set]{fullShare} ((slotM j).view.write (Elt F) f ((sumM : Memref sig .tc .vmem S1x512 .f32).view.read (Elt F) (sumsAt m c)) Finset.univ))
      ⊢ (filled m (ahead j c) j : sProp 𝕄) := by
  unfold filled slotPts
  iintro H
  iexists (slotM j).view.write (Elt F) f ((sumM : Memref sig .tc .vmem S1x512 .f32).view.read (Elt F) (sumsAt m c)) Finset.univ
  isplitr
  · ipureintro
    rw [ahead_rev_ahead, View.read_write_univ]
    exact View.read_whole _ _
  · iexact H

/-- Transfer `j`: the lent row goes to slot `j` of the device `j + 1` ahead, which was free; one row less is owed. -/
theorem send_step {α : Type} {Q : α → sProp 𝕄}
    {k : PUnit → Prog (TpuEff nD τ sig (Elt F) Λ₀ .tc) α} (j : Fin 3) (t : Dev nD) (ht : t = ahead j c) {hsc : (slotM j : Memref sig (Dev.tc t : Thread nD τ).2.kind .vmem S1x512 .f32).view.ref.isScScratch = false}
    {sS rS : DmaSem sig} (hS : sS = sndS j) (hR : rS = rcvS j)
    {hsrc : (sumM : Memref sig .tc .vmem S1x512 .f32).view.WordExact} {hdst : (slotM j).view.WordExact}
    {hsem : DmaTarget.Typed .vmem (.dma rS) (.remote (Dev.tc t : Thread nD τ) (slotM j) (.dma sS) hsc)} (O : CellTallies nD τ sig Unit) :
    iprop(records m K ∗ debt c (O + oweR c j) ∗ lent m c j ∗ free (ahead j c) j
        ∗ dutyTok ER (cell c (.snd j)) 0 0 ∗ dutyTok ER (cell (ahead j c) (.rcv j)) 0 0)
      ⊢ iprop(((cred (tallyAt (cell c (.snd j)) () N) ∗ debt c O) -∗ goes c (k ⟨⟩) Q)
          -∗ goes c (.op (.enqueueDma sumM (.remote (Dev.tc t : Thread nD τ) (slotM j) (.dma sS) hsc) (.dma rS) hsrc hdst hsem) k) Q) := by
  subst ht; subst hS; subst hR
  unfold debt free slotPts
  have hN : (slotM j).view.amount (.dma (rcvS j)) = N := rfl
  have hs₁ := amount_cell m c (.snd j) 0
  have hs₂ := amount_cell m (ahead j c) (.rcv j) 0
  iintro ⟨#HR, ⟨%W, HO⟩, Hx, ⟨%f, Hs⟩, Ht1, Ht2⟩ Hk
  iapply (Rounds.wp_send_pointsTo 𝒱₀ ER (plan m) (c : Thread nD τ) none (c' := (ahead j c : Thread nD τ))
    (src := sumM) (dst := slotM j) (hsc := hsc) (sS := .dma (sndS j)) (sem := .dma (rcvS j)) (κ₁ := K (c, .snd j)) (κ₂ := K (ahead j c, .rcv j))
    (q := shareTokN fullShare j.val) (r₁ := 0) (r₂ := 0) (d₁ := 0) (d₂ := 0) (fs := sumsAt m c) (fd := f)
    (mem_duties_dma m c false j) (mem_duties_dma m (ahead j c) true j)
    () () N hN hs₁ hs₂ O rfl (W := W)
    (Entails.of_eq (payload_cell m c (.snd j) 0).symm)
    ((filled_intro m c j f).trans (Entails.of_eq (payload_cell m (ahead j c) (.rcv j) 0).symm))) $$ [Hx Hs HO Ht1 Ht2]
  · isplitr; · iapply (records_inv m K c (.snd j)); iexact HR
    isplitr; · iapply (records_inv m K (ahead j c) (.rcv j)); iexact HR
    isplitl [Hx]; · unfold lent; iexact Hx
    isplitl [Hs]; · iexact Hs
    isplitl [HO]; · iexact HO
    isplitl [Ht1]; · iexact Ht1
    isplitr; · iapply (records_reached m K c (.snd j)); iexact HR
    isplitl [Ht2]; · iexact Ht2
    iapply (records_reached m K (ahead j c) (.rcv j)); iexact HR
  iintro ⟨Hc, HO⟩
  iapply Hk
  isplitl [Hc]; · iexact Hc
  iexists W; iexact HO

/-- Waiting on a transfer's cell, owing nothing, brings what its round brings. -/
theorem wait_step {α : Type} {Q : α → sProp 𝕄}
    {k : PUnit → Prog (TpuEff nD τ sig (Elt F) Λ₀ .tc) α} (b : Bool) (j : Fin 3) {q : DmaSem sig} (hq : q = xferS b j)
    {s d : Memref sig .tc .vmem S1x512 .f32} {hs hd} (hN : d.view.dmaCredit = N) :
    iprop(records m K ∗ cred (tallyAt (cell c (some (b, j))) () N) ∗ debt c 0 ∗ atPos ER (cell c (some (b, j))) 0 ∅ 0)
      ⊢ iprop(((debt c 0 ∗ atPos ER (cell c (some (b, j))) 1 ∅ 0 ∗ payloadOf m c 0 (some (some (b, j)))) -∗ goes c (k ⟨⟩) Q)
          -∗ goes c (.op (.waitDma2 q s d hs hd) k) Q) := by
  subst hq
  unfold debt
  iintro ⟨#HR, Hc, ⟨%W, HO⟩, Hat⟩ Hk
  iapply (Rounds.wp_wait_rest_token 𝒱₀ ER (plan m) (c : Thread nD τ) none (κ := K (c, some (b, j)))
      (wpE_waitDma2_eq 𝒱₀ (c : Thread nD τ) none Set.univ) (Set.mem_univ _) () (O := 0) (W := W) (R := 0) (m := 0) (T := ∅)
      ((Nat.zero_add _).trans (hN.trans (expect_dma m c b j).symm))) $$ [Hc HO Hat]
  · rw [hN]
    isplitr; · iapply (records_inv m K c (some (b, j))); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (show bigSep ((plan (F := F) m).duties (cell c (some (b, j))) 0 \ ∅) (fun d => (plan (F := F) m).payload (cell c (some (b, j))) 0 d)
      ⊢ payloadOf m c 0 (some (some (b, j))) from Entails.of_eq (by cases b; exact rest_snd m c j; exact rest_rcv m c j))
  iexact Hpay

/-- A cell whose round is over gives its counter, at zero, back. -/
theorem close_step (p : Part) :
    iprop(records m K ∗ atPos ER (cell c p) 1 ∅ 0) ⊢ (|={Set.univ}=> semVal (cell c p) 0 : sProp 𝕄) := by
  iintro ⟨#HR, Hat⟩
  iapply (Rounds.cell_close ER (plan m) (Set.mem_univ (K (c, p))) (fun h => h) (R := 1) (duties_later m (cell c p)))
  isplitr; · iapply (records_inv m K c p); iexact HR
  iexact Hat

end Cert.Scan

end
-- ==== Proof.Held.lean ====
/-
What a device holds before and after its body: the start of the communication, the two scratch buffers cut into the
parts that travel, the result of the body, and the data of the one grid point.
-/
module

public import proofs.«01_k».proof.Proof.Steps

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Part → ℕ) (c : Dev nD)

/-! ## Families of three and of seven -/

theorem three (Φ : Fin 3 → sProp 𝕄) : bigSep Finset.univ Φ = iprop(Φ 0 ∗ Φ 1 ∗ Φ 2) :=
  bigSep_univ_eq_bigSepL [(0 : Fin 3), 1, 2] (by decide) (by decide) Φ

theorem seven (Φ : Part → sProp 𝕄) :
    bigSep Finset.univ Φ = iprop(Φ .bar ∗ Φ (.snd 0) ∗ Φ (.snd 1) ∗ Φ (.snd 2) ∗ Φ (.rcv 0) ∗ Φ (.rcv 1) ∗ Φ (.rcv 2)) :=
  bigSep_univ_eq_bigSepL [(Part.bar : Part), Part.snd 0, Part.snd 1, Part.snd 2, Part.rcv 0, Part.rcv 1, Part.rcv 2] (by decide) (by decide) Φ

/-! ## What the communication starts from -/

/-- The duties device `c` pays, by the number of steps ahead: the barrier there, the receiving cell there, its own
    sending cell. -/
def payToks : sProp 𝕄 :=
  bigSep Finset.univ fun j : Fin 3 => iprop(dutyTok ER (cell (ahead j c) .bar) 0 j.rev
    ∗ dutyTok ER (cell (ahead j c) (.rcv j)) 0 0 ∗ dutyTok ER (cell c (.snd j)) 0 0)

/-- Device `c`'s part in the schedule. -/
def ghost : sProp 𝕄 :=
  iprop(records m K ∗ (bigSep Finset.univ fun p : Part => atPos ER (cell c p) 0 ∅ 0) ∗ payToks c)

/-- That under some names, what device `c` may count on at its barrier and its receiving cells, and the order of waits. -/
def start : sProp 𝕄 :=
  iprop((∃ K, ghost m K c) ∗ cred (tallyAt (cell c .bar) () 3)
    ∗ (bigSep Finset.univ fun j : Fin 3 => cred (tallyAt (cell c (.rcv j)) () N)) ∗ levAts L lv)

/-- The row of sums, the landing buffer, holding `f`. -/
def rowPts (f : Buf (Elt F) ((c : Thread nD τ).loc cc0_scratch0)) : sProp 𝕄 := ((c : Thread nD τ).loc cc0_scratch0) ↦{fullShare} f
def landPts (f : Buf (Elt F) ((c : Thread nD τ).loc cc0_scratch1)) : sProp 𝕄 := ((c : Thread nD τ).loc cc0_scratch1) ↦{fullShare} f

/-- Before the body. -/
def Φ₀ : sProp 𝕄 := iprop(start m c ∗ (∃ f, rowPts c f) ∗ ∃ f, landPts c f)
/-- After it: the scratch buffers at whatever they hold, and every counter at zero. -/
def Φ₁ : sProp 𝕄 :=
  iprop((∃ f : Buf (Elt F) ((c : Thread nD τ).loc cc0_scratch0), rowPts c f) ∗ (∃ f : Buf (Elt F) ((c : Thread nD τ).loc cc0_scratch1), landPts c f)
    ∗ bigSep Finset.univ fun p : Part => semVal (cell c p) 0)

/-! ## Cutting the scratch buffers -/

/-- The places of the landing buffer outside its slots. -/
def besides : sProp 𝕄 :=
  iprop(∃ f : Buf (Elt F) ((c : Thread nD τ).loc cc0_scratch1), ((c : Thread nD τ).loc cc0_scratch1)
    ↦[Ring.restOf (ℓ := (c : Thread nD τ).loc cc0_scratch1) fun j : Fin 3 => (slotM j).view.set]{fullShare} f)

/-- The landing buffer is its three slots and what lies beside them. -/
theorem land_split : iprop(∃ f, landPts c f) ⊢ (iprop((bigSep Finset.univ fun j : Fin 3 => free c j) ∗ besides c) : sProp 𝕄) :=
  Ring.fam_split_ex (ℓ := (c : Thread nD τ).loc cc0_scratch1) (fun j : Fin 3 => (slotM j).view.set) (fun i j h => slot_disjoint h)

theorem land_join (f₀ : Buf (Elt F) ((c : Thread nD τ).loc cc0_scratch1)) :
    iprop((bigSep Finset.univ fun j : Fin 3 => free c j) ∗ besides c) ⊢ (iprop(∃ f, landPts c f) : sProp 𝕄) :=
  Ring.fam_join (ℓ := (c : Thread nD τ).loc cc0_scratch1) (fun j : Fin 3 => (slotM j).view.set) (fun i j h => slot_disjoint h) f₀

theorem sum_set : (sumM : Memref sig .tc .vmem S1x512 .f32).view.set = Finset.univ := View.set_whole _

/-- What the device keeps of its row while the three transfers read it. -/
def kept : sProp 𝕄 := ((c : Thread nD τ).loc cc0_scratch0) ↦[Finset.univ]{shareDrop fullShare 3} sumsAt m c

/-- The row of sums is what the device keeps and what it lends. -/
theorem row_split : (rowPts c (sumsAt m c) : sProp 𝕄) ⊢ iprop(kept m c ∗ bigSep Finset.univ fun j : Fin 3 => lent m c j) := by
  unfold rowPts kept lent
  simp only [sum_set]
  exact pointsTo_toks_split fullShare 3

theorem row_join : iprop(kept m c ∗ bigSep Finset.univ fun j : Fin 3 => lent m c j) ⊢ (rowPts c (sumsAt m c) : sProp 𝕄) := by
  unfold rowPts kept lent
  simp only [sum_set]
  exact pointsTo_toks_join fullShare 3

/-! ## Closing -/

/-- Every cell's round over, every counter is zero. -/
theorem close_all : iprop(records m K ∗ bigSep Finset.univ fun p : Part => atPos ER (cell c p) 1 ∅ 0)
    ⊢ (|={Set.univ}=> bigSep Finset.univ fun p : Part => semVal (cell c p) 0 : sProp 𝕄) :=
  (Transfers.bigSep_mono_pers Finset.univ (records m K) _ _ fun p _ => close_step m K c p).trans (bigSep_fupd Finset.univ _)

/-! ## The result -/

/-- The number of the device as the program computes it. -/
def wordOf : BitVec 32 := Scalar.remsi (Scalar.divsi (Dev.word c) 1#32) 4#32

/-- A row of the landing buffer counts only on devices with at least `d` devices before them. -/
def gate (w d : BitVec 32) (r : FVec F S1x512 .f32) : FVec F S1x512 .f32 :=
  Scalar.select (Scalar.cmpi .sge w d) r (broadcast S1x512 (Scalar.ofBits .f32 0x00000000#32))

/-- The row added to every row of the block's prefix sums, from the three rows received. -/
def carry (w : BitVec 32) (r : Fin 3 → FVec F S1x512 .f32) : FVec F S1x512 .f32 :=
  addf (addf (addf (broadcast S1x512 (Scalar.ofBits .f32 0x00000000#32)) (gate w 1#32 (r 0))) (gate w 2#32 (r 1))) (gate w 3#32 (r 2))

/-- The block's prefix sums. -/
def prefixes (x : Vec F S1024x512 .f32) : FVec F S1024x512 .f32 := k0_pay4 (k0_pay2 x) (k0_pay3 x)

/-- Device `c`'s block of the result. -/
def outAt : (cc0_stg1_0 : Ref sig .tc).ty.Contents (Elt F) :=
  addf (prefixes (xAt m c)) (broadcastTo S1024x512 (carry (wordOf c) fun j => sumsAt m (ahead j.rev c)) broadcasts_S1x512_S1024x512)

/-- The value the program stores, read off the slots it loads, is the result once the slots hold the rows sent. -/
theorem stored_eq (f0 : Buf (Elt F) ((c : Thread nD τ).loc cc0_scratch1)) (f1 : Buf (Elt F) ((c : Thread nD τ).loc cc0_scratch1)) (f2 : Buf (Elt F) ((c : Thread nD τ).loc cc0_scratch1))
    (h0 : (slotM 0).view.read (Elt F) f0 = sumsAt m (ahead (Fin.rev 0) c))
    (h1 : (slotM 1).view.read (Elt F) f1 = sumsAt m (ahead (Fin.rev 1) c))
    (h2 : (slotM 2).view.read (Elt F) f2 = sumsAt m (ahead (Fin.rev 2) c)) :
    k0_pay6 (wordOf c) (prefixes (xAt m c)) (k0_pay5 (F := F)) (Scalar.cmpi .sge (wordOf c) 1#32)
      ((landM : Memref sig .tc .vmem S3x1x512 .f32).view.readAt (Elt F) (slotR 0).toLoadRect f0)
      ((landM : Memref sig .tc .vmem S3x1x512 .f32).view.readAt (Elt F) (slotR 1).toLoadRect f1)
      ((landM : Memref sig .tc .vmem S3x1x512 .f32).view.readAt (Elt F) (slotR 2).toLoadRect f2) = outAt m c := by
  unfold outAt carry
  show _ = addf (prefixes (xAt m c)) (broadcastTo S1024x512 (addf (addf (addf _ (gate _ _ (sumsAt m (ahead (Fin.rev 0) c)))) (gate _ _ (sumsAt m (ahead (Fin.rev 1) c)))) (gate _ _ (sumsAt m (ahead (Fin.rev 2) c)))) _)
  rw [← h0, ← h1, ← h2]
  rfl

/-! ## The grid point -/

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t
  have := cfg0_N
  exact Fin.ext (by simp only [t₀]; omega)

/-- The data of the grid point: the arrays, what the staged blocks hold afterwards, what is held and owed around it. -/
def dats (_ : Fin 1) (c : Dev nD) : Pipeline.Dat τ (Elt F) Unit ℕ UU ℕ cfg0 c where
  A w := m ((cfg0.win w).arr.view.loc (c : Thread nD τ))
  after w _ := match w with
    | ⟨0, _⟩ => xAt m c
    | ⟨1, _⟩ => outAt m c
  Φ t := match t with
    | ⟨0, _⟩ => Φ₀ m c
    | ⟨_ + 1, _⟩ => Φ₁ c
  q _ := fullShare
  owed t := match t with
    | ⟨0, _⟩ => oweAll c
    | ⟨_ + 1, _⟩ => 0

end Cert.Scan

end
-- ==== Proof.Body.lean ====
/-
The body of the kernel on one device, one rule per operation in program order: three signals, the row of sums, the
barrier, three transfers out, three rows in, the result, the transfers' ends.
-/
module

public import proofs.«01_k».proof.Proof.Held

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-! ## Loads and stores -/

theorem origin : (![0, 0] : Fin 2 → Nat) = fun _ => 0 := funext fun a => by fin_cases a <;> rfl

/-- The whole block, the whole row. -/
abbrev blockR : Rect S1024x512 := Rect.unit (s := S1024x512) ![0, 0] S1024x512.size inb_S1024x512_S1024x512_0_0
abbrev sumR : Rect S1x512 := Rect.unit (s := S1x512) ![0, 0] S1x512.size inb_S1x512_S1x512_0_0

theorem load_x (f : (cc0_stg0_0 : Ref sig .tc).ty.Contents (Elt F)) :
    (xM : Memref sig .tc .vmem S1024x512 .f32).view.readAt (Elt F) blockR.toLoadRect f = f :=
  Memref.readAt_unit_zero (Elt F) cc0_stg0_0 origin _ f

theorem store_sums (f w : (cc0_scratch0 : Ref sig .tc).ty.Contents (Elt F)) :
    ((sumM : Memref sig .tc .vmem S1x512 .f32).access sumR : View sig .tc _ _ _).write (Elt F) f w Finset.univ = w :=
  Memref.write_access_unit_zero_univ (Elt F) cc0_scratch0 origin _ f w

theorem store_out (f w : (cc0_stg1_0 : Ref sig .tc).ty.Contents (Elt F)) :
    ((oM : Memref sig .tc .vmem S1024x512 .f32).access blockR : View sig .tc _ _ _).write (Elt F) f w Finset.univ = w :=
  Memref.write_access_unit_zero_univ (Elt F) cc0_stg1_0 origin _ f w

/-- A load of slot `j` reads within the slot. -/
theorem slot_covers (j : Fin 3) : (landM : Memref sig .tc .vmem S3x1x512 .f32).view.setOn (slotR j).toLoadRect.set ⊆ (slotM j).view.set := by
  rw [Memref.set_view_squeeze]
  exact Memref.setOn_subset_slice_of_within landM (slotR j) (fun _ => rfl) (slotR j).toLoadRect (by revert j; decide)

/-! ## The body -/

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

/-- A whole buffer with known contents. -/
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body starts from and what it leaves. -/
def bodyPre : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))
def bodyPost : sProp 𝕄 :=
  iprop(Φ₁ c ∗ (dats m 0 c).owesAt () t₀.succ ∗ stg c cc0_stg0_0 (xAt m c) ∗ stg c cc0_stg1_0 (outAt m c))

set_option maxHeartbeats 1600000 in
/-- The body run from what the device holds leaves the result, the scratch buffers and the counters. -/
theorem sound_body (Kt : PUnit → sProp 𝕄) :
    iprop(bodyPre m c ∗ (bodyPost m c -∗ Kt ⟨⟩))
      ⊢ goes c (cc0_body xM (Memref.isWhole_whole _) oM (Memref.isWhole_whole _)
          sumM (Memref.isWhole_whole _) landM (Memref.isWhole_whole _) cc0_scratch2 cc0_scratch3) Kt := by
  unfold goes
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre Φ₀ start ghost payToks
  simp only [three]
  iintro ⟨⟨⟨⟨⟨%K, #HR, Hat, ⟨Tb0, Tr0, Ts0⟩, ⟨Tb1, Tr1, Ts1⟩, ⟨Tb2, Tr2, Ts2⟩⟩, Hcb, ⟨Hc0, Hc1, Hc2⟩, #HL⟩, ⟨%fr, Hrow⟩, Hland⟩,
    Ho, ⟨%d0, %g0, %hg0, Hx⟩, ⟨%d1, %g1, %hg1, Hout⟩⟩, Hk⟩
  have hx : g0 = xAt m c := by rw [hg0]; unfold Dat.before; rw [if_pos (fetch_0 t₀)]; rfl
  subst hx
  unfold Dat.owesAt Pipeline.owesWithin
  icases Ho with ⟨%W, %hW, HO⟩
  rw [show (dats m 0 c).owed t₀.castSucc = oweRows c + oweB c 2 + oweB c 1 + oweB c 0 from rfl]
  ihave Hland := (land_split c) $$ Hland
  icases Hland with ⟨Hfree, Hbes⟩
  ihave Hfree := (Entails.of_eq (three _)) $$ Hfree
  icases Hfree with ⟨F0, F1, F2⟩
  ihave Hat := (Entails.of_eq (seven _)) $$ Hat
  icases Hat with ⟨Ab, As0, As1, As2, Ar0, Ar1, Ar2⟩
  -- the three signals, each giving one slot away
  iapply (signal_step m K c 0 _ (dev1_eq c) _ rfl (oweRows c + oweB c 2 + oweB c 1)) $$ [HO Tb0 F2]
  · isplitr; · iexact HR
    isplitl [HO]; · unfold debt; iexists W; iexact HO
    isplitl [Tb0]; · iexact Tb0
    iexact F2
  iintro HO
  iapply (signal_step m K c 1 _ (dev2_eq c) _ rfl (oweRows c + oweB c 2)) $$ [HO Tb1 F1]
  · isplitr; · iexact HR
    isplitl [HO]; · iexact HO
    isplitl [Tb1]; · iexact Tb1
    iexact F1
  iintro HO
  iapply (signal_step m K c 2 _ (dev3_eq c) _ rfl (oweRows c)) $$ [HO Tb2 F0]
  · isplitr; · iexact HR
    isplitl [HO]; · iexact HO
    isplitl [Tb2]; · iexact Tb2
    iexact F0
  iintro HO
  -- the row of sums
  iapply (wp_load 𝒱₀ (c : Thread nD τ) none Set.univ (m := xM) (Finset.subset_univ _)) $$ Hx; iintro Hx
  rw [load_x]
  unfold rowPts
  iapply (wp_load 𝒱₀ (c : Thread nD τ) none Set.univ (m := sumM) (Finset.subset_univ _)) $$ Hrow; iintro Hrow
  iapply (wp_store 𝒱₀ (c : Thread nD τ) none Set.univ (m := sumM) (r := sumR) (Mk := Finset.univ) (Finset.subset_univ _)) $$ Hrow; iintro Hrow
  rw [store_sums]
  -- the barrier: a slot of each other device
  iapply (barrier_step m K c _ rfl) $$ [HO Hcb Ab]
  · isplitr; · iexact HR
    isplitr; · iexact HL
    isplitl [Hcb]; · iexact Hcb
    isplitl [HO] <;> iassumption
  iintro ⟨HO, Ab, Hfree⟩
  ihave Hfree := (Entails.of_eq (three _)) $$ Hfree
  icases Hfree with ⟨F0, F1, F2⟩
  -- the three transfers out
  ihave Hrow := (show (((sumM : Memref sig .tc .vmem S1x512 .f32).access sumR : View sig .tc _ _ _).loc (c : Thread nD τ) ↦{fullShare} k0_pay1 (xAt m c))
    ⊢ iprop(kept m c ∗ bigSep Finset.univ fun j : Fin 3 => lent m c j) from row_split m c) $$ Hrow
  icases Hrow with ⟨Hkept, Hlent⟩
  ihave Hlent := (Entails.of_eq (three _)) $$ Hlent
  icases Hlent with ⟨L0, L1, L2⟩
  unfold oweRows
  iapply (send_step m K c 1 _ (dev4_eq c) (snd_sem 1) (rcv_sem 1) (0 + oweR c 2 + oweR c 0)) $$ [HO L1 F1 Ts1 Tr1]
  · isplitr; · iexact HR
    isplitl [HO]; · iexact HO
    isplitl [L1]; · iexact L1
    isplitl [F1]; · iexact F1
    isplitl [Ts1] <;> iassumption
  iintro ⟨Hs1, HO⟩
  iapply (send_step m K c 0 _ (dev5_eq c) (snd_sem 0) (rcv_sem 0) (0 + oweR c 2)) $$ [HO L0 F0 Ts0 Tr0]
  · isplitr; · iexact HR
    isplitl [HO]; · iexact HO
    isplitl [L0]; · iexact L0
    isplitl [F0]; · iexact F0
    isplitl [Ts0] <;> iassumption
  iintro ⟨Hs0, HO⟩
  iapply (send_step m K c 2 _ (dev6_eq c) (snd_sem 2) (rcv_sem 2) 0) $$ [HO L2 F2 Ts2 Tr2]
  · isplitr; · iexact HR
    isplitl [HO]; · iexact HO
    isplitl [L2]; · iexact L2
    isplitl [F2]; · iexact F2
    isplitl [Ts2] <;> iassumption
  iintro ⟨Hs2, HO⟩
  iapply (wp_load 𝒱₀ (c : Thread nD τ) none Set.univ (m := xM) (Finset.subset_univ _)) $$ Hx; iintro Hx
  rw [load_x]
  -- the three rows in
  iapply (wait_step m K c true 1 (rcv_sem 1) (slot_credit 1)) $$ [HO Hc1 Ar1]
  · isplitr; · iexact HR
    isplitl [Hc1]; · iexact Hc1
    isplitl [HO] <;> iassumption
  iintro ⟨HO, Ar1, P1⟩
  iapply (wait_step m K c true 0 (rcv_sem 0) (slot_credit 0)) $$ [HO Hc0 Ar0]
  · isplitr; · iexact HR
    isplitl [Hc0]; · iexact Hc0
    isplitl [HO] <;> iassumption
  iintro ⟨HO, Ar0, P0⟩
  iapply (wait_step m K c true 2 (rcv_sem 2) (slot_credit 2)) $$ [HO Hc2 Ar2]
  · isplitr; · iexact HR
    isplitl [Hc2]; · iexact Hc2
    isplitl [HO] <;> iassumption
  iintro ⟨HO, Ar2, P2⟩
  unfold payloadOf filled slotPts
  icases P0 with ⟨%f0, %h0, P0⟩
  icases P1 with ⟨%f1, %h1, P1⟩
  icases P2 with ⟨%f2, %h2, P2⟩
  -- the result
  iapply (wp_load 𝒱₀ (c : Thread nD τ) none Set.univ (m := landM) (slot_covers 0)) $$ P0; iintro P0
  iapply (wp_load 𝒱₀ (c : Thread nD τ) none Set.univ (m := landM) (slot_covers 1)) $$ P1; iintro P1
  iapply (wp_load 𝒱₀ (c : Thread nD τ) none Set.univ (m := landM) (slot_covers 2)) $$ P2; iintro P2
  iapply (wp_load 𝒱₀ (c : Thread nD τ) none Set.univ (m := oM) (Finset.subset_univ _)) $$ Hout; iintro Hout
  iapply (wp_store 𝒱₀ (c : Thread nD τ) none Set.univ (m := oM) (r := blockR) (Mk := Finset.univ) (Finset.subset_univ _)) $$ Hout; iintro Hout
  rw [store_out]
  -- the transfers have left
  iapply (wait_step m K c false 1 (snd_sem 1) rfl) $$ [HO Hs1 As1]
  · isplitr; · iexact HR
    isplitl [Hs1]; · iexact Hs1
    isplitl [HO] <;> iassumption
  iintro ⟨HO, As1, L1⟩
  iapply (wait_step m K c false 0 (snd_sem 0) rfl) $$ [HO Hs0 As0]
  · isplitr; · iexact HR
    isplitl [Hs0]; · iexact Hs0
    isplitl [HO] <;> iassumption
  iintro ⟨HO, As0, L0⟩
  iapply (wait_step m K c false 2 (snd_sem 2) rfl) $$ [HO Hs2 As2]
  · isplitr; · iexact HR
    isplitl [Hs2]; · iexact Hs2
    isplitl [HO] <;> iassumption
  iintro ⟨HO, As2, L2⟩
  -- everything is put together again
  imod (close_all m K c) $$ [Ab As0 As1 As2 Ar0 Ar1 Ar2] with Hz
  · isplitr; · iexact HR
    rw [seven]
    isplitl [Ab]; · iexact Ab
    isplitl [As0]; · iexact As0
    isplitl [As1]; · iexact As1
    isplitl [As2]; · iexact As2
    isplitl [Ar0]; · iexact Ar0
    isplitl [Ar1] <;> iassumption
  rw [wp_ret]; imodintro
  iapply Hk
  unfold bodyPost Φ₁ Dat.owesAt Pipeline.owesWithin
  rw [show (dats m 0 c).owed t₀.succ = 0 from rfl]
  isplitl [Hkept L0 L1 L2 P0 P1 P2 Hbes Hz]
  · isplitl [Hkept L0 L1 L2]
    · iexists sumsAt m c
      iapply (row_join m c)
      rw [three]
      unfold payloadOf
      isplitl [Hkept]; · iexact Hkept
      isplitl [L0]; · iexact L0
      isplitl [L1] <;> iassumption
    isplitl [P0 P1 P2 Hbes]
    · iapply (land_join c f0)
      rw [three]
      unfold free slotPts
      isplitl [P0 P1 P2]
      · isplitl [P0]; · iexists f0; iexact P0
        isplitl [P1]; · iexists f1; iexact P1
        iexists f2; iexact P2
      · iexact Hbes
    iexact Hz
  isplitl [HO]
  · unfold debt
    icases HO with ⟨%W', HO⟩
    iexists W'
    isplitr; · ipureintro; exact fun _ _ => Or.inl trivial
    iexact HO
  isplitl [Hx]
  · iexists _; isplitr; · (ipureintro; rfl)
    iexact Hx
  iexists _; isplitr
  · ipureintro; exact stored_eq m c f0 f1 f2 h0 h1 h2
  iexact Hout

/-- The body's obligation at the grid point. -/
theorem body_obligation : BodyObligation (dats (F := F) m 0 c) (defs₀ (F := F)) 𝒱₀ () Set.univ := fun t => by
  rw [fin_N t]
  rw [bigSep_W, bigSep_W]
  simp only [owns_whole_eq]
  show bodyPre m c ⊢ goes c (cc0_body xM (Memref.isWhole_whole _) oM (Memref.isWhole_whole _)
          sumM (Memref.isWhole_whole _) landM (Memref.isWhole_whole _) cc0_scratch2 cc0_scratch3) (fun _ => bodyPost m c)
  iintro H
  iapply (sound_body m c fun _ => bodyPost m c)
  isplitl [H]; · iexact H
  iintro H; iexact H

end Cert.Scan

end
-- ==== Proof.Deal.lean ====
/-
What the launch deals: every device's cells opened, the duty tokens passed to the devices that pay them, and the
credit each device has at its barrier and its receiving cells.
-/
module

public import proofs.«01_k».proof.Proof.Held

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (c : Dev nD)

/-! ## Cells and tokens -/

/-- All the cells of all the devices. -/
def allCells : Finset (GSem nD τ sig) := Finset.univ.map ⟨fun cp : Dev nD × Part => cell cp.1 cp.2, cell_injective⟩

/-- The duties: by device and number, one of the device's barrier and one of each of the number's two transfer cells. -/
def dutyOf (x : Dev nD × Fin 3 × Option Bool) : GSem nD τ sig × ℕ × Fin 3 :=
  match x.2.2 with
  | none => (cell x.1 .bar, 0, x.2.1)
  | some b => (cell x.1 (some (b, x.2.1)), 0, 0)

theorem dutyOf_injective : Function.Injective dutyOf := by
  rintro ⟨c, j, o⟩ ⟨c', j', o'⟩ h
  have hc : cell c _ = cell c' _ := (by cases o <;> cases o' <;> exact congrArg Prod.fst h :
    cell c (o.elim Part.bar fun b => some (b, j)) = cell c' (o'.elim Part.bar fun b => some (b, j')))
  obtain ⟨rfl, hp⟩ := cell_eq_iff.mp hc
  rcases o with _ | b <;> rcases o' with _ | b'
  · have hj : j = j' := congrArg (fun y : GSem nD τ sig × ℕ × Fin 3 => y.2.2) h
    rw [hj]
  · exact absurd hp (by simp)
  · exact absurd hp (by simp)
  · have hbj : (b, j) = (b', j') := Option.some.inj hp
    obtain ⟨rfl, rfl⟩ := Prod.mk.inj hbj; rfl

def allDuties : Finset (GSem nD τ sig × ℕ × Fin 3) := Finset.univ.map ⟨dutyOf, dutyOf_injective⟩

/-- The launch's own part of the ghost state beside the pipeline's. -/
def u₀ : UU :=
  (initOf (Pipeline.cells cfgs cellOf_inj) (Pipeline.launchToks cfgs cellOf_inj), initOf allCells allDuties)

/-- The tokens of the duties of device `c`'s own cells. -/
def ownToks : sProp 𝕄 :=
  bigSep Finset.univ fun j : Fin 3 => iprop(dutyTok ER (cell c .bar) 0 j
    ∗ dutyTok ER (cell c (.rcv j)) 0 0 ∗ dutyTok ER (cell c (.snd j)) 0 0)

/-- Device `c`'s deal: its cells' states, its positions and marks, its tokens. -/
def dealt : sProp 𝕄 :=
  iprop((bigSep Finset.univ fun p : Part => roundState ER (plan m) (cell c p) 0)
    ∗ ((bigSep Finset.univ fun p : Part => atPos ER (cell c p) 0 ∅ 0) ∗ bigSep Finset.univ fun p : Part => reached ER (cell c p) 0) ∗ ownToks c)

/-- A family over all cells is one over devices and parts. -/
theorem over_cells (Φ : GSem nD τ sig → sProp 𝕄) :
    bigSep allCells Φ = bigSep Finset.univ fun c : Dev nD => bigSep Finset.univ fun p : Part => Φ (cell c p) := by
  unfold allCells; rw [bigSep_map, bigSep_univ_prod]; rfl

/-- The tokens of all the duties are those of every device's cells. -/
theorem over_duties : bigSep allDuties (fun x => (dutyTok ER x.1 x.2.1 x.2.2 : sProp 𝕄)) = bigSep Finset.univ fun c : Dev nD => ownToks c := by
  unfold allDuties; rw [bigSep_map, bigSep_univ_prod]
  refine bigSep_congr fun c _ => ?_
  rw [bigSep_univ_prod]
  unfold ownToks
  refine bigSep_congr fun j _ => ?_
  rw [bigSep_univ_eq_bigSepL [(none : Option Bool), some true, some false] (by decide) (by decide)]
  rfl

/-- The launch's ghost state is every device's deal. -/
theorem fund_all : BI.own (ER (initOf allCells allDuties)) ⊢ (|==> bigSep Finset.univ (dealt m) : sProp 𝕄) := by
  iintro HX
  imod (Rounds.fund ER (plan m) allCells allDuties) $$ HX with ⟨Hst, Hr, Hat, Htok⟩
  imodintro
  ihave Hst := (Entails.of_eq (over_cells fun g => roundState ER (plan m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_duties) $$ Htok
  unfold dealt; simp only [bigSep_sep']
  isplitl [Hst]; · iexact Hst
  isplitl [Hat Hr]
  · isplitl [Hat] <;> iassumption
  iexact Htok

/-! ## Tokens to the devices that pay -/

/-- Over all devices and numbers, a family taken at the device `j + 1` ahead is the family itself. -/
theorem around (Φ : Dev nD → Fin 3 → sProp 𝕄) :
    (bigSep Finset.univ fun c : Dev nD => bigSep Finset.univ fun j : Fin 3 => Φ c j)
      = bigSep Finset.univ fun c : Dev nD => bigSep Finset.univ fun j : Fin 3 => Φ (ahead j c) j := by
  rw [bigSep_univ_comm, bigSep_univ_comm fun (c : Dev nD) (j : Fin 3) => Φ (ahead j c) j]
  exact bigSep_congr fun j _ => bigSep_univ_equiv (turn j) fun c => Φ c j

theorem reversed (Φ : Fin 3 → sProp 𝕄) : bigSep Finset.univ Φ = bigSep Finset.univ fun j : Fin 3 => Φ j.rev :=
  bigSep_univ_equiv Fin.revPerm Φ

/-- The tokens of every device's cells are the tokens every device pays with. -/
theorem toks_around : (bigSep Finset.univ fun c : Dev nD => (ownToks c : sProp 𝕄)) = bigSep Finset.univ fun c : Dev nD => payToks c := by
  unfold ownToks payToks
  simp only [bigSep_sep']
  rw [← around fun c j => (dutyTok ER (cell c .bar) 0 j.rev : sProp 𝕄), ← around fun c j => (dutyTok ER (cell c (.rcv j)) 0 0 : sProp 𝕄)]
  congr 1
  exact bigSep_congr fun c _ => reversed fun j => (dutyTok ER (cell c .bar) 0 j : sProp 𝕄)

/-! ## Opening the cells -/

/-- The six semaphores of transfers are the kernel's own. -/
def osem : Bool × Fin 3 → SemLoc sig := fun bj => .dma (xferS bj.1 bj.2)

theorem ownSems0_eq : (Pipeline.ownSems0 (Ix := Unit) (Name := ℕ) (U := UU) (Lvl := ℕ) (Val := Elt F) (τ := τ) osem c : sProp 𝕄)
    = iprop(semVal (cell c (.snd 0)) 0 ∗ semVal (cell c (.snd 1)) 0 ∗ semVal (cell c (.snd 2)) 0
        ∗ semVal (cell c (.rcv 0)) 0 ∗ semVal (cell c (.rcv 1)) 0 ∗ semVal (cell c (.rcv 2)) 0) := by
  rw [Pipeline.ownSems0_eq_of_list c osem [(false, 0), (false, 1), (false, 2), (true, 0), (true, 1), (true, 2)] (by decide) (by decide)]
  rfl

/-- The barrier's semaphore is the one that outlives the call. -/
theorem unscopedSems0_eq : (unscopedSems0 c : sProp 𝕄) = semVal (cell c .bar) 0 := by
  unfold unscopedSems0; rw [bigSep_eq_bigSepL_of_eq [SemLoc.reg barS] (by decide) (by decide)]; rfl

/-- The counters of a device's seven cells. -/
theorem counters : iprop(unscopedSems0 c ∗ Pipeline.ownSems0 (Ix := Unit) (Name := ℕ) (U := UU) (Lvl := ℕ) (Val := Elt F) (τ := τ) osem c)
      = (bigSep Finset.univ fun p : Part => semVal (cell c p) 0 : sProp 𝕄) := by
  rw [ownSems0_eq, unscopedSems0_eq, seven]

/-- One device's cells opened. -/
theorem core_open :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun p : Part => iprop(∃ κ : ℕ, cellInv ER (plan m) κ (cell c p)))
          ∗ ((bigSep Finset.univ fun p : Part => atPos ER (cell c p) 0 ∅ 0) ∗ bigSep Finset.univ fun p : Part => reached ER (cell c p) 0) ∗ ownToks c) := by
  unfold dealt
  iintro ⟨Hos, Hus, Hst, Hat, Htok⟩
  ihave Hv := (Entails.of_eq (counters (F := F) c)) $$ [Hos Hus]
  · isplitl [Hus] <;> iassumption
  imod (show iprop((bigSep Finset.univ fun p : Part => semVal (cell c p) 0) ∗ bigSep Finset.univ fun p : Part => roundState ER (plan m) (cell c p) 0)
      ⊢ (|={Set.univ}=> bigSep Finset.univ fun p : Part => iprop(∃ κ : ℕ, cellInv ER (plan m) κ (cell c p)) : sProp 𝕄) from by
        rw [← bigSep_sep']
        exact (bigSep_mono fun p _ => (Rounds.body_intro ER (plan m) (cell c p)).trans inv_alloc).trans (bigSep_fupd _ _)) $$ [Hv Hst] with Hinv
  · isplitl [Hv] <;> iassumption
  imodintro
  isplitl [Hinv]; · iexact Hinv
  isplitl [Hat] <;> iassumption

/-- Of all the devices' opened cells every device knows all, keeps its positions and takes the tokens it pays with. -/
theorem regroup :
    (bigSep Finset.univ fun c : Dev nD => iprop((bigSep Finset.univ fun p : Part => iprop(∃ κ : ℕ, cellInv ER (plan m) κ (cell c p)))
          ∗ ((bigSep Finset.univ fun p : Part => atPos ER (cell c p) 0 ∅ 0) ∗ bigSep Finset.univ fun p : Part => reached ER (cell c p) 0) ∗ ownToks c) : sProp 𝕄)
      ⊢ bigSep Finset.univ fun c : Dev nD => iprop(∃ K, ghost m K c) := by
  simp only [bigSep_sep']
  rw [← bigSep_univ_prod (fun cp : Dev nD × Part => iprop(∃ κ : ℕ, cellInv ER (plan m) κ (cell cp.1 cp.2))),
    ← bigSep_univ_prod (fun cp : Dev nD × Part => (reached ER (cell cp.1 cp.2) 0 : sProp 𝕄)), toks_around]
  iintro ⟨HI, ⟨Hat, #HR⟩, Htok⟩
  ihave HK := (BI.bigSep_exists_pi Finset.univ (fun (cp : Dev nD × Part) (κ : ℕ) => (cellInv ER (plan m) κ (cell cp.1 cp.2) : sProp 𝕄))) $$ HI
  icases HK with ⟨%K, #HI⟩
  iapply (Transfers.bigSep_mono_pers Finset.univ (records m K)
    (fun c : Dev nD => iprop((bigSep Finset.univ fun p : Part => atPos ER (cell c p) 0 ∅ 0) ∗ payToks c)) _ fun c _ => (by
      unfold ghost
      iintro ⟨#H, Hc⟩
      iexists K
      isplitr; · iexact H
      iexact Hc))
  isplitr
  · unfold records
    isplitl; · iexact HI
    iexact HR
  · rw [bigSep_sep']
    isplitl [Hat] <;> iassumption

/-- The cells of all the devices opened at once. -/
theorem open_all : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ fun c : Dev nD => iprop(∃ K, ghost m K c) :=
  ((bigSep_mono fun c _ => core_open m c).trans (bigSep_fupd _ _)).trans (BI.fupd_mono (regroup m))

/-! ## The credit of the launch -/

theorem oweR_cell (d : Dev nD) (j : Fin 3) (p : Part) :
    oweR d j (cell c p) () = if d = ahead j.rev c then (if p = .rcv j then N else 0) else 0 := by
  unfold oweR
  rw [tallyAt_apply]
  by_cases h : d = ahead j.rev c
  · subst h
    rw [ahead_ahead_rev, if_pos rfl]
    by_cases hp : p = .rcv j
    · rw [if_pos hp, hp, if_pos ⟨rfl, rfl⟩]
    · rw [if_neg hp, if_neg fun h' => hp (cell_eq_iff.mp h'.1).2]
  · rw [if_neg h, if_neg fun h' => h ((ahead_eq_iff j d c).mp (cell_eq_iff.mp h'.1).1.symm)]

theorem oweB_cell (d : Dev nD) (k : Fin 3) (p : Part) :
    oweB d k (cell c p) () = if d = ahead k.rev c then (if p = .bar then 1 else 0) else 0 := by
  unfold oweB
  rw [tallyAt_apply]
  by_cases h : d = ahead k.rev c
  · subst h
    rw [ahead_ahead_rev, if_pos rfl]
    by_cases hp : p = .bar
    · rw [if_pos hp, hp, if_pos ⟨rfl, rfl⟩]
    · rw [if_neg hp, if_neg fun h' => hp (cell_eq_iff.mp h'.1).2]
  · rw [if_neg h, if_neg fun h' => h ((ahead_eq_iff k d c).mp (cell_eq_iff.mp h'.1).1.symm)]

/-- What all the devices owe a cell: a row to each receiving cell, three units to each barrier. -/
theorem owed_total (p : Part) :
    (∑ d : Dev nD, oweAll d (cell c p) ()) = (∑ j : Fin 3, if p = .rcv j then N else 0) + ∑ k : Fin 3, if p = .bar then 1 else 0 := by
  have h1 (d : Dev nD) : oweAll d (cell c p) () = (∑ j, oweR d j (cell c p) ()) + ∑ k, oweB d k (cell c p) () := by
    rw [oweAll_eq, Pi.add_apply, Finsupp.add_apply, sum_tally_apply, sum_tally_apply]
  rw [Finset.sum_congr rfl fun d _ => h1 d, Finset.sum_add_distrib, Finset.sum_comm, Finset.sum_comm (f := fun d k => oweB d k (cell c p) ())]
  congr 1
  · refine Finset.sum_congr rfl fun j _ => ?_
    rw [Finset.sum_congr rfl fun d _ => oweR_cell c d j p, Finset.sum_ite_eq' Finset.univ (ahead j.rev c), if_pos (Finset.mem_univ _)]
  · refine Finset.sum_congr rfl fun k _ => ?_
    rw [Finset.sum_congr rfl fun d _ => oweB_cell c d k p, Finset.sum_ite_eq' Finset.univ (ahead k.rev c), if_pos (Finset.mem_univ _)]

theorem launch_cell (p : Part) (n : ℕ) (hn : ((∑ j : Fin 3, if p = .rcv j then N else 0) + ∑ k : Fin 3, if p = .bar then 1 else 0) = n) :
    tallyOn (cell c p) (launchCredit (Pipeline.owing oweAll) 0 (cell c p)) = (tallyAt (cell c p) () n : CellTallies nD τ sig Unit) := by
  unfold tallyAt
  refine congrArg _ (Finsupp.ext fun u => ?_)
  cases u
  rw [Pipeline.launchCredit_owing, Finsupp.single_eq_same, owed_total, hn]

theorem launch_bar : tallyOn (cell c .bar) (launchCredit (Pipeline.owing oweAll) 0 (cell c .bar)) = (tallyAt (cell c .bar) () 3 : CellTallies nD τ sig Unit) :=
  launch_cell c .bar 3 (by simp)

theorem launch_rcv (j : Fin 3) :
    tallyOn (cell c (.rcv j)) (launchCredit (Pipeline.owing oweAll) 0 (cell c (.rcv j))) = (tallyAt (cell c (.rcv j)) () N : CellTallies nD τ sig Unit) :=
  launch_cell c (.rcv j) N (by
    have h (i : Fin 3) : ((Part.rcv j : Part) = .rcv i) ↔ j = i := ⟨fun h => (Prod.mk.inj (Option.some.inj h)).2, fun h => h ▸ rfl⟩
    simp only [h, Finset.sum_ite_eq, Finset.mem_univ, if_true]
    rfl)

/-- The launch's credit gives three units at the barrier and a row at each receiving cell. -/
theorem creds : (Pipeline.launchCred oweAll c : sProp 𝕄)
    ⊢ iprop(cred (tallyAt (cell c .bar) () 3) ∗ bigSep Finset.univ fun j : Fin 3 => cred (tallyAt (cell c (.rcv j)) () N)) := by
  unfold Pipeline.launchCred
  refine (bigSep_subset (Finset.subset_univ (Finset.univ.map ⟨partSem, partSem_injective⟩))).trans ?_
  rw [bigSep_map]
  refine (show _ ⊢ (bigSep Finset.univ fun p : Part => cred (tallyOn (cell c p) (launchCredit (Pipeline.owing oweAll) 0 (cell c p))) : sProp 𝕄)
    from BI.Entails.refl _).trans ?_
  rw [seven, launch_bar, launch_rcv, launch_rcv, launch_rcv, three]
  iintro ⟨H0, -, -, -, H1, H2, H3⟩
  isplitl [H0]; · iexact H0
  isplitl [H1]; · iexact H1
  isplitl [H2] <;> iassumption

end Cert.Scan

end
-- ==== Proof.Run.lean ====
/-
The run of the kernel on the four devices: it ends, every counter is back at zero, the argument is as it was, and each
device's result array holds its block of the result.
-/
module

public import proofs.«01_k».proof.Proof.Body
public import proofs.«01_k».proof.Proof.Deal
public import Idealize.ShloMosaic.Lib.Pipeline.CollectiveSegs

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the launch theorem asks -/

/-- The six transfer counters are what the kernel has of its own. -/
theorem ownSemFacts : Pipeline.OwnSemFacts cfg0.spec osem := by decide

/-- Each window's array is held in full. -/
theorem share_eq (w : Fin cfg0.W) : (dats m 0 c).share w = fullShare := by
  unfold Dat.share
  split <;> rfl

/-- What the launch gives a device is what the communication starts from. -/
theorem start_intro :
    iprop(Pipeline.unscopedRestP Pipeline.Prefetch.none cfg0.spec c (fun b => m ((c : Thread nD τ).loc b)) ∗ levAts L lv
        ∗ Pipeline.launchCred oweAll c ∗ prngReg c (ρ c) ∗ (∃ K, ghost m K c))
      ⊢ |={Set.univ}=> iprop(start m c ∗ emp) := by
  iintro ⟨-, Hlev, Hcr, -, HG⟩
  ihave Hc := (creds (F := F) c) $$ Hcr
  icases Hc with ⟨Hb, Hr⟩
  imodintro
  unfold start
  isplitl
  · isplitl [HG]; · iexact HG
    isplitl [Hb]; · iexact Hb
    isplitl [Hr]; · iexact Hr
    iexact Hlev
  · iempintro

/-- With the scratch buffers, that is what the body starts from. -/
theorem before_body :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ rowPts landPts
  iintro ⟨Hs, -, ⟨Hr, Hl⟩⟩
  isplitl [Hs]; · iexact Hs
  isplitl [Hr]; · iexact Hr
  iexact Hl

/-- What the body leaves gives back every counter at zero and the scratch buffers. -/
theorem after_body :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ rowPts landPts
  iintro ⟨Hr, Hl, Hz⟩
  ihave H := (Entails.of_eq (counters c).symm) $$ Hz
  icases H with ⟨Hu, Ho⟩
  isplitl [Hu]; · iexact Hu
  isplitl [Ho]; · iexact Ho
  isplitl [Hr]; · iexact Hr
  iexact Hl

/-- The pipeline's own waits are allowed at every point. -/
theorem waits : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What window `w`'s array of device `c` holds at the end. -/
def finalA (w : Fin cfg0.W) : Buf (Elt F) ((cfg0.win w).arr.view.loc (c : Thread nD τ)) := (dats m 0 c).arrAt w cfg0.N

/-- At the end every array holds that. -/
def atEnd (r : PUnit × MemSt nD τ sig (Elt F)) : Prop :=
  ∀ c : Dev nD, ∀ w : Fin cfg0.W, r.2.mem ((cfg0.win w).arr.view.loc (c : Thread nD τ)) = finalA m c w

set_option maxRecDepth 8000 in
/-- From any memory with all counters at zero, every fair execution on the four devices ends, with the arrays as said
    and every counter at zero. -/
theorem run_main : θ_run defs (onTc (τ := τ) (main (F := F))) ⟨m, fun _ => 0, ρ⟩ (fun r => atEnd m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := oweAll) (howed₀ := fun _ => rfl) (howedN := fun _ => rfl)
    (L := L) (lv := lv) (hL := L_of_ne) (hwaits := waits m)
    (G := dealt m) (G' := fun c => iprop(∃ K, ghost m K c)) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := open_all m)
    (hA := fun _ _ => rfl) (hpf := fun _ k => k.elim0)
    (X := start m) (Y := fun c => unscopedSems0 c) (Z := fun _ => iprop(emp))
    (hX := start_intro m ρ) (hin := before_body m) (hout := after_body m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- The argument is as it was. -/
theorem finalA_x : finalA m c (0 : Fin 2) = m ((c : Thread nD τ).loc main_arg0) :=
  (dats (F := F) m 0 c).arrAt_in (0 : Fin 2) rfl _

/-- Every fair execution ends with the argument as it was and every counter at zero. -/
theorem run_quiet : θ_run defs (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun _ h => ⟨fun c => (h.1 c (0 : Fin 2)).trans (finalA_x m c), h.2⟩) (run_main m ρ)

/-- A device's staged block is its whole argument array. -/
theorem xAt_eq : xAt m c = m ((c : Thread nD τ).loc main_arg0) := by
  unfold xAt
  exact Memref.read_access_unit_zero (Elt F) main_arg0 (funext fun a => by fin_cases a <;> decide) (fun a => by fin_cases a <;> decide) _

/-- The result array holds the device's block of the result. -/
theorem finalA_o : finalA m c (1 : Fin 2) = outAt m c := by
  have h : (win0_1.blk (0 : Fin 1)).view.read (Elt F) (finalA m c (1 : Fin 2)) = outAt m c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 (funext fun a => by fin_cases a <;> decide) (fun a => by fin_cases a <;> decide) _).symm.trans h

end Cert.Scan

end
-- ==== Proof.Windows.lean ====
/-
Sums of the entries of a sequence that end at a place: over a window of given length, doubled by adding the window
shifted by its length, and over everything up to the place.
-/
module

public import Mathlib.Algebra.BigOperators.Intervals

@[expose] public section

noncomputable section

namespace Cert.Scan

open scoped BigOperators

variable {M : Type*} [AddCommMonoid M] (f : ℕ → M)

/-- The sum of the last `s` entries of `f` up to place `i`, fewer when the sequence begins within them. -/
def win (s i : ℕ) : M := ∑ k ∈ Finset.range s, if k ≤ i then f (i - k) else 0

/-- A window of one is the entry. -/
theorem win_one (i : ℕ) : win f 1 i = f i := by simp [win]

/-- Two windows of `s`, the second ending `s` places before the first, make one of twice the length. -/
theorem win_double (s i : ℕ) : win f s i + (if s ≤ i then win f s (i - s) else 0) = win f (s + s) i := by
  unfold win
  rw [Finset.sum_range_add]
  congr 1
  by_cases h : s ≤ i
  · rw [if_pos h]
    refine Finset.sum_congr rfl fun k _ => ?_
    by_cases hk : k ≤ i - s
    · rw [if_pos hk, if_pos (by omega), Nat.sub_sub]
    · rw [if_neg hk, if_neg (by omega)]
  · rw [if_neg h]
    exact (Finset.sum_eq_zero fun k _ => if_neg (by omega)).symm

/-- The positions of a window of `n + 1` that reaches `r` from below: those before the beginning count nothing, the
    rest are the entries `0` to `r`. -/
theorem sum_padded (n r : ℕ) (h : r ≤ n) :
    (∑ a ∈ Finset.range (n + 1), if n ≤ r + a then f (r + a - n) else 0) = ∑ k ∈ Finset.range (r + 1), f k := by
  obtain ⟨d, rfl⟩ : ∃ d, n = r + d := ⟨n - r, by omega⟩
  rw [show r + d + 1 = d + (r + 1) by omega, Finset.sum_range_add,
    Finset.sum_eq_zero fun a ha => if_neg (by have := Finset.mem_range.1 ha; omega), zero_add]
  refine Finset.sum_congr rfl fun k _ => ?_
  rw [if_pos (by omega)]
  congr 1
  omega

/-- A window longer than the place it ends at is the sum of everything up to it. -/
theorem win_all (n i : ℕ) (h : i ≤ n) : win f (n + 1) i = ∑ k ∈ Finset.range (i + 1), f k := by
  rw [← sum_padded f n i h]
  unfold win
  rw [← Finset.sum_range_reflect]
  refine Finset.sum_congr rfl fun a ha => ?_
  have := Finset.mem_range.1 ha
  by_cases hk : n ≤ i + a
  · rw [if_pos hk, if_pos (by omega)]
    congr 1
    omega
  · rw [if_neg hk, if_neg (by omega)]

/-- The first `b` stretches of `n` entries, one stretch after the other. -/
theorem sum_stretches (n b : ℕ) :
    (∑ k ∈ Finset.range (n * b), f k) = ∑ e ∈ Finset.range b, ∑ k ∈ Finset.range n, f (n * e + k) := by
  induction b with
  | zero => simp
  | succ b ih => rw [Nat.mul_succ, Finset.sum_range_add, ih, Finset.sum_range_succ]

end Cert.Scan

end
-- ==== Proof.Prefixes.lean ====
/-
The prefix sums of one block: ten times the block is added to itself moved down, by one row and twice as far each time.
-/
module

public import proofs.«01_k».proof.Proof.Windows
public import proofs.«01_k».proof.Proof.Held
public import Idealize.ShloMosaic.Lib.ValueIdx
public import Idealize.ShloMosaic.Lib.Pipeline.Value
public import Idealize.ShloMosaic.PureOps.Ideal.Laws

@[expose] public section

noncomputable section

namespace Cert.Scan

open Cert.KernelIdeal Cert.KernelIdeal.Gen
open Idealize.ShloMosaic Idealize.ShloMosaic.ValueIdx
open scoped BigOperators

/-- Column `j` of an array of 512 columns as a sequence, zero below its last row. -/
def colOf {n : ℕ} (x : (⟨2, ![n, 512]⟩ : Shape).Idx → EReal) (j : Fin 512) (k : ℕ) : EReal :=
  if h : k < n then x (ix2 ⟨k, h⟩ j) else 0

theorem colOf_at {n : ℕ} (x : (⟨2, ![n, 512]⟩ : Shape).Idx → EReal) (i : Fin n) (j : Fin 512) : colOf x j i.val = x (ix2 i j) := by
  unfold colOf
  rw [dif_pos i.isLt]

/-- Every entry of `v` is the sum of a window of `s` rows of `x` in its column. -/
def Windowed (x v : FVec Ideal S1024x512 .f32) (s : ℕ) : Prop := ∀ i j, v (ix2 i j) = win (colOf x j) s i.val

theorem zero_word : (Scalar.ofBits .f32 0x00000000#32 : Ideal .f32) = 0 := Ideal.ofBits_zero_f32

/-- Moved down by `s` rows, with zeros above, an array has at row `i` what it had at row `i - s`. -/
theorem moved_apply {s r : ℕ} (v : FVec Ideal S1024x512 .f32) (h1 : S1024x512.Slices ![0, 0] ⟨2, ![r, 512]⟩)
    (h2 : Shape.Concatenates [⟨2, ![s, 512]⟩, ⟨2, ![r, 512]⟩] S1024x512 0) (i : Fin 1024) (j : Fin 512) :
    concatenate S1024x512 0 [⟨⟨2, ![s, 512]⟩, broadcast ⟨2, ![s, 512]⟩ (Scalar.ofBits .f32 0x00000000#32 : Ideal .f32)⟩,
      ⟨⟨2, ![r, 512]⟩, extractStridedSlice ⟨2, ![r, 512]⟩ ![0, 0] v h1⟩] h2 (ix2 i j)
      = if s ≤ i.val then v (ix2 ⟨i.val - s, by omega⟩ j) else 0 := by
  have hsr : s + r = 1024 := by simpa using h2.2.2
  by_cases h : s ≤ i.val
  · rw [if_pos h]
    refine (concatenate_pair_apply_right (t := S1024x512) (0 : Fin 2) _ _ h2 (ix2 i j) rfl rfl
      (ix2 (n0 := r) (n1 := 512) ⟨i.val - s, by omega⟩ j) (fun b hb => ?_) ?_).trans ?_
    · match b with
      | ⟨0, _⟩ => exact absurd rfl hb
      | ⟨1, _⟩ => rfl
    · show i.val - s + s = i.val
      omega
    · unfold extractStridedSlice
      refine congrArg v (funext fun a => Fin.ext ?_)
      match a with
      | ⟨0, _⟩ => exact Nat.zero_add _
      | ⟨1, _⟩ => exact Nat.zero_add _
  · rw [if_neg h]
    refine (concatenate_pair_apply_left (t := S1024x512) (0 : Fin 2) _ _ h2 (ix2 i j) rfl
      (ix2 (n0 := s) (n1 := 512) ⟨i.val, by omega⟩ j) (fun b => ?_)).trans zero_word
    match b with
    | ⟨0, _⟩ => rfl
    | ⟨1, _⟩ => rfl

/-- Adding an array of window sums to itself moved down by the window's length doubles the windows. -/
theorem Windowed.double {x v : FVec Ideal S1024x512 .f32} {s r : ℕ} (h : Windowed x v s) (h1 : S1024x512.Slices ![0, 0] ⟨2, ![r, 512]⟩)
    (h2 : Shape.Concatenates [⟨2, ![s, 512]⟩, ⟨2, ![r, 512]⟩] S1024x512 0) :
    Windowed x (addf v (concatenate S1024x512 0 [⟨⟨2, ![s, 512]⟩, broadcast ⟨2, ![s, 512]⟩ (Scalar.ofBits .f32 0x00000000#32 : Ideal .f32)⟩,
      ⟨⟨2, ![r, 512]⟩, extractStridedSlice ⟨2, ![r, 512]⟩ ![0, 0] v h1⟩] h2)) (s + s) := by
  intro i j
  rw [addf_apply, moved_apply, h i j, ← win_double]
  congr 1
  split
  · exact h _ j
  · rfl

theorem Windowed.start (x : FVec Ideal S1024x512 .f32) (h : S1024x512.ShapeCasts S1024x512) : Windowed x (shapeCast S1024x512 x h) 1 := by
  intro i j
  rw [shapeCast_self, win_one, colOf_at]

/-- The kernel's prefix sums are windows of all 1024 rows. -/
theorem prefixes_windowed (x : FVec Ideal S1024x512 .f32) : Windowed x (prefixes x) 1024 := by
  have h2 : Windowed x (k0_pay2 x) 128 :=
    (((((((Windowed.start x _).double (s := 1) _ _).double (s := 2) _ _).double (s := 4) _ _).double (s := 8) _ _).double
      (s := 16) _ _).double (s := 32) _ _).double (s := 64) _ _
  exact ((h2.double (s := 128) _ concatenates_S128x512_S896x512_S1024x512_d0).double (s := 256) _ _).double (s := 512) _ _

/-- Entry by entry, the kernel's prefix sums of a block are the sums of its rows so far. -/
theorem prefixes_apply (x : FVec Ideal S1024x512 .f32) (i : Fin 1024) (j : Fin 512) :
    prefixes (F := Ideal) x (ix2 i j) = ∑ k ∈ Finset.range (i.val + 1), colOf x j k :=
  (prefixes_windowed x i j).trans (win_all _ 1023 _ (by omega))

end Cert.Scan

end
-- ==== Proof.Carry.lean ====
/-
What a device adds to its prefix sums: the column sums of the blocks before its own.
-/
module

public import proofs.«01_k».proof.Proof.Prefixes
public import Idealize.ShloMosaic.Lib.Pointwise.Reduce

@[expose] public section

noncomputable section

namespace Cert.Scan

open Cert.KernelIdeal Cert.KernelIdeal.Gen
open Idealize.ShloMosaic hiding ix1 ix2
open Idealize.ShloMosaic.TcCoe Idealize.ShloMosaic.ValueIdx
open scoped BigOperators

variable (m : (ℓ : Loc nD τ sig) → Buf (Elt Ideal) ℓ) (c : Dev nD)

/-- The row a device sends holds the sum of each column of its block. -/
theorem sums_apply (x : FVec Ideal S1024x512 .f32) (j : Fin 512) :
    k0_pay1 (F := Ideal) x (ix2 0 j) = ∑ k ∈ Finset.range 1024, colOf x j k := by
  unfold k0_pay1
  dsimp only
  rw [shapeCast_self, shapeCast_self]
  refine (shapeCast_apply _ _ (ix2 0 j) (ix1 j) ?_).trans ?_
  · rw [Shape.rowMajor_val_one, Shape.rowMajor_val_two]
    simp
  · refine (Ideal.reduceAdd_r2_a0 reduces_S1024x512_S512 x (ix1 j)).trans ?_
    rw [Finset.sum_range]
    exact Finset.sum_congr rfl fun k _ => (colOf_at x k j).symm

/-- Whether a device has `d` devices before it, as the kernel tests it. -/
theorem test_eq (d : Fin 3) : Scalar.cmpi .sge (wordOf c) (BitVec.ofNat 32 (d.val + 1)) = if d.val + 1 ≤ c.val then 1#1 else 0#1 := by
  revert c d
  decide

/-- The device a row comes from is that many before. -/
theorem source_val (d : Fin 3) (h : d.val + 1 ≤ c.val) : (ahead d.rev c).val = c.val - (d.val + 1) := by
  revert c d
  decide

/-- A row received counts its column sums where there are enough devices before, and zero elsewhere. -/
theorem gate_apply (d : Fin 3) (w : BitVec 32) (hw : w = BitVec.ofNat 32 (d.val + 1)) (r : FVec Ideal S1x512 .f32) (j : Fin 512) :
    gate (wordOf c) w r (ix2 0 j) = if d.val + 1 ≤ c.val then r (ix2 0 j) else 0 := by
  subst hw
  unfold gate
  rw [test_eq]
  split
  · rfl
  · exact zero_word

/-- The whole result's block: the block's own prefix sums, and the column sums of the blocks before it. -/
theorem out_apply (i : Fin 1024) (j : Fin 512) :
    outAt m c (ix2 i j) = (∑ k ∈ Finset.range (i.val + 1), colOf (xAt m c) j k)
      + ((((0 + if 1 ≤ c.val then ∑ k ∈ Finset.range 1024, colOf (xAt m (ahead 2 c)) j k else 0)
        + if 2 ≤ c.val then ∑ k ∈ Finset.range 1024, colOf (xAt m (ahead 1 c)) j k else 0))
        + if 3 ≤ c.val then ∑ k ∈ Finset.range 1024, colOf (xAt m (ahead 0 c)) j k else 0) := by
  unfold outAt
  rw [addf_apply, prefixes_apply, broadcastTo_apply _ _ (ix2 i j) (ix2 0 j) (fun a => by fin_cases a <;> rfl)]
  unfold carry
  rw [addf_apply, addf_apply, addf_apply, gate_apply c 0 1#32 rfl, gate_apply c 1 2#32 rfl, gate_apply c 2 3#32 rfl]
  unfold sumsAt
  dsimp only
  rw [sums_apply, sums_apply, sums_apply, broadcast_apply, zero_word]
  rfl

end Cert.Scan

end
-- ==== Proof.Whole.lean ====
/-
The reference's running sum, entry by entry: the sum of the rows so far.
-/
module

public import proofs.«01_k».proof.Proof.Prefixes
public import proofs.«01_k».proof.Proof.Gen.ReferenceIdeal.Run

@[expose] public section

noncomputable section

namespace Cert.Scan

open Cert.ReferenceIdeal Cert.ReferenceIdeal.Gen
open Idealize.ShloMosaic Idealize.ShloMosaic.ValueIdx
open scoped BigOperators

/-- The value of the reference. -/
def refOut (X : FVec Ideal S4096x512 .f32) : FVec Ideal S4096x512 .f32 :=
  Host.reduceWindowAdd ![4096, 1] ![1, 1] ![4095, 0] ![0, 0] X (broadcastInDim S_ ![] bcast_S_S_ (constant S_ .f32 0x00000000#32))
    reduceWindows_S4096x512_S4096x512_w4096s1p4095_0_w1s1p0_0 h_S_

/-- Adding terms one after the other onto a value adds their sum. -/
theorem foldl_add {ι M : Type*} [AddCommMonoid M] (l : List ι) (g : ι → M) (v : M) : l.foldl (fun r a => r + g a) v = v + (l.map g).sum := by
  induction l generalizing v with
  | nil => simp
  | cons a l ih => rw [List.foldl_cons, ih, List.map_cons, List.sum_cons, add_assoc]

/-- Summing a window that reaches `n` rows back, over `n + 1` rows with `n` rows of zeros before them, sums the rows so
    far. -/
theorem window_sum {n N : ℕ} (hN : n + 1 = N) (X : (⟨2, ![N, 512]⟩ : Shape).Idx → EReal)
    (h : (⟨2, ![N, 512]⟩ : Shape).ReduceWindows ![N, 1] ![1, 1] ![n, 0] ![0, 0] ⟨2, ![N, 512]⟩) (r : Fin N) (j : Fin 512) :
    Ideal.hostReduceWindowAdd ![N, 1] ![1, 1] ![n, 0] ![0, 0] h X 0 (ix2 r j) = ∑ k ∈ Finset.range (r.val + 1), colOf X j k := by
  subst hN
  rw [← sum_padded (colOf X j) n r.val (by omega)]
  unfold Ideal.hostReduceWindowAdd Host.reduceWindow
  dsimp only
  rw [foldl_add (M := EReal), zero_add, ← Fin.sum_univ_def, Finset.sum_range]
  rw [← Equiv.sum_comp (⟨2, ![n + 1, 1]⟩ : Shape).rowMajor, sum_idx2]
  refine Finset.sum_congr rfl fun a _ => ?_
  rw [Fin.sum_univ_one]
  have hs := Equiv.symm_apply_apply (⟨2, ![n + 1, 1]⟩ : Shape).rowMajor (ix2 a (0 : Fin 1))
  have e0 := congrArg (fun w : (⟨2, ![n + 1, 1]⟩ : Shape).Idx => (w 0).val) hs
  have e1 := congrArg (fun w : (⟨2, ![n + 1, 1]⟩ : Shape).Idx => (w 1).val) hs
  dsimp only at e0 e1
  have ha := a.isLt
  have hr := r.isLt
  by_cases hc : n ≤ r.val + a.val
  · rw [if_pos hc]
    refine (dif_pos ?_).trans (Eq.trans ?_ (dif_pos (show r.val + a.val - n < n + 1 by omega)).symm)
    rotate_left
    · refine congrArg X (funext fun b => Fin.ext ?_)
      match b with
      | ⟨0, _⟩ => exact congrArg₂ (fun e q => e + q - n) (Nat.mul_one r.val) e0
      | ⟨1, _⟩ => exact congrArg₂ (fun e q => e + q - 0) (Nat.mul_one j.val) e1
    · intro b
      match b with
      | ⟨0, _⟩ => exact (congrArg₂ (fun e q => n ≤ e + q ∧ e + q - n < n + 1) (Nat.mul_one r.val) e0).mpr ⟨hc, show r.val + a.val - n < n + 1 by omega⟩
      | ⟨1, _⟩ => exact (congrArg₂ (fun e q => 0 ≤ e + q ∧ e + q - 0 < 512) (Nat.mul_one j.val) e1).mpr ⟨Nat.zero_le _, j.isLt⟩
  · rw [if_neg hc, dif_neg]
    intro hin
    exact hc ((congrArg₂ (fun e q => n ≤ e + q) (Nat.mul_one r.val) e0).mp (hin 0).1)

/-- Each entry of the reference is the sum of its column up to its row. -/
theorem refOut_apply (X : FVec Ideal S4096x512 .f32) (r : Fin 4096) (j : Fin 512) :
    refOut X (ix2 r j) = ∑ k ∈ Finset.range (r.val + 1), colOf X j k := by
  have hz : (broadcastInDim S_ ![] bcast_S_S_ (constant (F := Ideal) S_ .f32 0x00000000#32)) (Shape.Idx.first h_S_) = (0 : EReal) := zero_word
  unfold refOut Host.reduceWindowAdd
  rw [hz]
  exact window_sum (n := 4095) (N := 4096) rfl X _ r j

end Cert.Scan

end
-- ==== Proof.Equation.lean ====
/-
Each device's block of the result is the block of the reference's running sum over the whole array.
-/
module

public import proofs.«01_k».proof.Proof.Carry
public import proofs.«01_k».proof.Proof.Whole
public import Idealize.ShloMosaic.Lib.Layout

@[expose] public section

noncomputable section

namespace Cert.Scan

open Cert.KernelIdeal Cert.KernelIdeal.Gen
open Idealize.ShloMosaic hiding ix1 ix2 eq_ix2
open Idealize.ShloMosaic.TcCoe Idealize.ShloMosaic.ValueIdx
open scoped BigOperators

variable (m : (ℓ : Loc nD τ sig) → Buf (Elt Ideal) ℓ) (c : Dev nD) (X : FVec Ideal ⟨2, ![4096, 512]⟩ .f32)

/-- Device `c`'s block of an array of 4096 rows. -/
abbrev blockOf (c : Dev nD) (X : FVec Ideal ⟨2, ![4096, 512]⟩ .f32) : FVec Ideal S1024x512 .f32 :=
  Layout.block ⟨2, ![1024, 512]⟩ ⟨2, ![4096, 512]⟩ 0 4 c X

/-- A block's row `i` is the array's row `i` after the rows of the blocks before. -/
theorem blockOf_apply (i : Fin 1024) (j : Fin 512) :
    blockOf c X (ix2 i j) = X (ix2 ⟨1024 * c.val + i.val, by have : c.val < 4 := c.isLt; omega⟩ j) := by
  unfold blockOf
  rw [Layout.block_apply]
  refine congrArg X (funext fun a => Fin.ext ?_)
  match a with
  | ⟨0, _⟩ => exact congrArg (· + i.val) (Nat.mul_comm c.val 1024)
  | ⟨1, _⟩ => rfl

/-- A block's column is a stretch of the array's column. -/
theorem colOf_block (j : Fin 512) (k : ℕ) (hk : k < 1024) : colOf (blockOf c X) j k = colOf X j (1024 * c.val + k) := by
  have hc : c.val < 4 := c.isLt
  exact (colOf_at (blockOf c X) ⟨k, hk⟩ j).trans ((blockOf_apply c X ⟨k, hk⟩ j).trans (colOf_at X ⟨1024 * c.val + k, by omega⟩ j).symm)

/-- The sum of column `j` over the `e`-th block's rows. -/
def total (j : Fin 512) (e : ℕ) : EReal := ∑ k ∈ Finset.range 1024, colOf X j (1024 * e + k)

theorem total_block (j : Fin 512) : (∑ k ∈ Finset.range 1024, colOf (blockOf c X) j k) = total X j c.val :=
  Finset.sum_congr rfl fun k hk => colOf_block c X j k (Finset.mem_range.1 hk)

/-- The total of the block received in slot `d`, where it counts, is that of the block `d + 1` before. -/
theorem counted (d : Fin 3) (j : Fin 512) :
    (if d.val + 1 ≤ c.val then ∑ k ∈ Finset.range 1024, colOf (blockOf (ahead d.rev c) X) j k else 0)
      = if d.val + 1 ≤ c.val then total X j (c.val - (d.val + 1)) else 0 := by
  split
  · next h => rw [total_block, source_val c d h]
  · rfl

/-- The totals that count, nearest block first, are all the totals before the device's block. -/
theorem totals_before (T : ℕ → EReal) :
    ((0 + if 1 ≤ c.val then T (c.val - 1) else 0) + if 2 ≤ c.val then T (c.val - 2) else 0) + (if 3 ≤ c.val then T (c.val - 3) else 0)
      = ∑ e ∈ Finset.range c.val, T e := by
  have hc : c.val < 4 := c.isLt
  generalize c.val = n at hc
  match n, hc with
  | 0, _ => simp
  | 1, _ => simp
  | 2, _ => simp [Finset.sum_range_succ, add_comm]
  | 3, _ => simp [Finset.sum_range_succ, add_comm, add_left_comm, add_assoc]

/-- Where every device's argument is its block of `X`, every device's result is its block of the running sum of `X`. -/
theorem out_eq_block (hX : ∀ c : Dev nD, xAt m c = blockOf c X) : outAt m c = blockOf c (refOut X) := by
  funext p
  obtain ⟨i, j, rfl⟩ : ∃ (i : Fin 1024) (j : Fin 512), p = ix2 i j := ⟨p 0, p 1, eq_ix2 p⟩
  have hi := i.isLt
  rw [out_apply, blockOf_apply, refOut_apply, hX, hX, hX, hX]
  have e := totals_before c (total X j)
  have e0 := counted c X 0 j
  have e1 := counted c X 1 j
  have e2 := counted c X 2 j
  refine (congrArg₂ (· + ·) (Finset.sum_congr rfl fun k hk => colOf_block c X j k (by have := Finset.mem_range.1 hk; omega))
    ((congrArg₂ (· + ·) (congrArg₂ (· + ·) (congrArg (0 + ·) e0) e1) e2).trans e)).trans ?_
  show (∑ k ∈ Finset.range (i.val + 1), colOf X j (1024 * c.val + k)) + (∑ e ∈ Finset.range c.val, total X j e)
    = ∑ k ∈ Finset.range (1024 * c.val + (i.val + 1)), colOf X j k
  rw [Finset.sum_range_add _ (1024 * c.val), sum_stretches, add_comm]
  rfl

end Cert.Scan

end
-- ==== Proof.lean ====
/-
The claims about the kernel and its reference, put together: both programs of the kernel run and leave nothing behind,
so does the reference, and over the extended reals each device's result is its block of the reference's running sum.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Scan

section Same

variable {F : FTy → Type} [FloatOps F]

/-- The kernel's two programs have one text, so at each label they run the same body. -/
theorem same_bodies : Cert.Kernel.defs₀ (F := F) = Cert.KernelIdeal.defs₀ := by
  unfold Cert.Kernel.defs₀ Cert.KernelIdeal.defs₀
  refine congrArg Defs.onTc ?_
  funext l
  obtain ⟨l, hl⟩ := l
  cases l with
  | zero => funext ⟨t, s⟩; rfl
  | succ n => exact absurd hl (Nat.not_lt.2 (Nat.le_add_left _ _))

/-- And the launch built on those bodies is the same. -/
theorem same_launch : Cert.Kernel.defs (F := F) = Cert.KernelIdeal.defs :=
  congrArg (Pipeline.defs Cert.Kernel.pcfgs) same_bodies

end Same

/-- The kernel ends without fault, its argument as it was and every counter at zero. -/
theorem frame_kernel : Cert.quiescent_Kernel := fun m ρ _ => by
  rw [same_launch]
  exact run_quiet (F := Bits) m ρ

/-- So does the kernel over the extended reals. -/
theorem frame_ideal : Cert.quiescent_KernelIdeal := fun m ρ _ =>
  run_quiet (F := Ideal) m ρ

/-- So does the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device's result is its block of the reference's result. -/
theorem same_value : Cert.algebraic_KernelIdeal_ReferenceIdeal := by
  intro m ρ m' ρ' _ hX
  refine ⟨refOut (m' (((0 : Dev Cert.ReferenceIdeal.nD).tc : Thread _ Cert.ReferenceIdeal.τ).loc Cert.ReferenceIdeal.main_arg0)), ?_, ?_⟩
  · refine (θ_run Cert.KernelIdeal.defs _ _).mono (fun _ h c => ⟨?_, (h.1 c (0 : Fin 2)).trans (finalA_x m c)⟩) (run_main (F := Ideal) m ρ)
    exact (h.1 c (1 : Fin 2)).trans ((finalA_o m c).trans (out_eq_block m c _ fun d => (xAt_eq m d).trans (hX d)))
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, same_value⟩

end Cert.Proof

end
